-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "scale_log2e" .f32 0x3DD53B95#32 (((Real.sqrt 192)⁻¹ * (Real.log 2)⁻¹ : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v148) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v96_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v96_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S2x8192x4x128 : Shape := ⟨4, ![2, 8192, 4, 128]⟩
abbrev S2x8192x4x64 : Shape := ⟨4, ![2, 8192, 4, 64]⟩
abbrev S2x8448x4x128 : Shape := ⟨4, ![2, 8448, 4, 128]⟩
abbrev S2x8448x64 : Shape := ⟨3, ![2, 8448, 64]⟩
abbrev S_ : Shape := ⟨0, ![]⟩

class Facts : Prop where
  bcast_S_S2x8192x4x128 : S_.BroadcastsInDim S2x8192x4x128 (![] : Fin 0 → Fin S2x8192x4x128.rank)
  reducesTo_S2x8192x4x128_S_d0_1_2_3 : S2x8192x4x128.ReducesTo [0, 1, 2, 3] S_
  h_S_ : 0 < S_.numel
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_
  bcast_S_S2x8448x4x128 : S_.BroadcastsInDim S2x8448x4x128 (![] : Fin 0 → Fin S2x8448x4x128.rank)
  reducesTo_S2x8448x4x128_S_d0_1_2_3 : S2x8448x4x128.ReducesTo [0, 1, 2, 3] S_
  bcast_S_S2x8448x64 : S_.BroadcastsInDim S2x8448x64 (![] : Fin 0 → Fin S2x8448x64.rank)
  reducesTo_S2x8448x64_S_d0_1_2 : S2x8448x64.ReducesTo [0, 1, 2] S_

variable [Facts]

def fn_part1 {F : FTy → Type} [FloatOps F] (main_v13 : IVec S_ 1) (main_v16 : IVec S2x8448x64 1) : IVec S_ 1 :=
  let main_c_5 : IVec S_ 1 := constantI S_ 1 1#1
  let main_v17 : IVec S_ 1 := (fun x v => Host.reduce IntOp.andi x v reducesTo_S2x8448x64_S_d0_1_2 h_S_) main_v16 main_c_5
  let main_v18 : IVec S_ 1 := andi main_v13 main_v17
  main_v18

def fn {F : FTy → Type} [FloatOps F] (main_arg0 : FVec F S2x8192x4x128 .f32) (main_arg1 : FVec F S2x8192x4x64 .f32) (main_arg2 : FVec F S2x8448x4x128 .f32) (main_arg3 : FVec F S2x8448x64 .f32) (main_arg4 : FVec F S2x8448x4x128 .f32) : IVec S_ 1 :=
  let main_v0 : FVec F S2x8192x4x128 .f32 := Host.absf main_arg0
  let main_cst : FVec F S_ .f32 := constant S_ .f32 0x7F800000#32
  let main_v1 : FVec F S2x8192x4x128 .f32 := broadcastInDim S2x8192x4x128 ![] bcast_S_S2x8192x4x128 main_cst
  let main_v2 : IVec S2x8192x4x128 1 := cmpf .olt main_v0 main_v1
  let main_c : IVec S_ 1 := constantI S_ 1 1#1
  let main_v3 : IVec S_ 1 := (fun x v => Host.reduce IntOp.andi x v reducesTo_S2x8192x4x128_S_d0_1_2_3 h_S_) main_v2 main_c
  let main_v4 : FVec F S2x8192x4x64 .f32 := Host.absf main_arg1
  let main_cst_0 : FVec F S_ .f32 := constant S_ .f32 0x7F800000#32
  let main_v5 : FVec F S2x8192x4x64 .f32 := broadcastInDim S2x8192x4x64 ![] bcast_S_S2x8192x4x64 main_cst_0
  let main_v6 : IVec S2x8192x4x64 1 := cmpf .olt main_v4 main_v5
  let main_c_1 : IVec S_ 1 := constantI S_ 1 1#1
  let main_v7 : IVec S_ 1 := (fun x v => Host.reduce IntOp.andi x v reducesTo_S2x8192x4x64_S_d0_1_2_3 h_S_) main_v6 main_c_1
  let main_v8 : IVec S_ 1 := andi main_v3 main_v7
  let main_v9 : FVec F S2x8448x4x128 .f32 := Host.absf main_arg2
  let main_cst_2 : FVec F S_ .f32 := constant S_ .f32 0x7F800000#32
  let main_v10 : FVec F S2x8448x4x128 .f32 := broadcastInDim S2x8448x4x128 ![] bcast_S_S2x8448x4x128 main_cst_2
  let main_v11 : IVec S2x8448x4x128 1 := cmpf .olt main_v9 main_v10
  let main_c_3 : IVec S_ 1 := constantI S_ 1 1#1
  let main_v12 : IVec S_ 1 := (fun x v => Host.reduce IntOp.andi x v reducesTo_S2x8448x4x128_S_d0_1_2_3 h_S_) main_v11 main_c_3
  let main_v13 : IVec S_ 1 := andi main_v8 main_v12
  let main_v14 : FVec F S2x8448x64 .f32 := Host.absf main_arg3
  let main_cst_4 : FVec F S_ .f32 := constant S_ .f32 0x7F800000#32
  let main_v15 : FVec F S2x8448x64 .f32 := broadcastInDim S2x8448x64 ![] bcast_S_S2x8448x64 main_cst_4
  let main_v16 : IVec S2x8448x64 1 := cmpf .olt main_v14 main_v15
  fn_part1 (F := F) main_v13 main_v16
-- ==== Pre_finite3.lean ====
abbrev S2x8192x1024 : Shape := ⟨3, ![2, 8192, 1024]⟩
abbrev S2x2x8448x512 : Shape := ⟨4, ![2, 2, 8448, 512]⟩
abbrev S2x8448x1024 : Shape := ⟨3, ![2, 8448, 1024]⟩
abbrev S1x512 : Shape := ⟨2, ![1, 512]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x4x1024 : Shape := ⟨3, ![2, 4, 1024]⟩
abbrev S2x8x6144 : Shape := ⟨3, ![2, 8, 6144]⟩
abbrev S_ : Shape := ⟨0, ![]⟩

class Facts : Prop where
  bcast_S_S2x2x8448x512 : S_.BroadcastsInDim S2x2x8448x512 (![] : Fin 0 → Fin S2x2x8448x512.rank)
  reducesTo_S2x2x8448x512_S_d0_1_2_3 : S2x2x8448x512.ReducesTo [0, 1, 2, 3] S_
  h_S_ : 0 < S_.numel

variable [Facts]

def fn {F : FTy → Type} [FloatOps F] (main_arg0 : FVec F S2x8192x1024 .f32) (main_arg1 : FVec F S2x2x8448x512 .f32) (main_arg2 : FVec F S2x8448x1024 .bf16) (main_arg3 : FVec F S2x2x8448x512 .f32) (main_arg4 : FVec F S2x8448x1024 .bf16) (main_arg5 : FVec F S1x512 .f32) (main_arg6 : FVec F S1x512 .f32) (main_arg7 : FVec F S1x512 .f32) (main_arg8 : FVec F S2x1024x1024 .f32) (main_arg9 : FVec F S2x1024x4096 .f32) (main_arg10 : FVec F S2x4096x1024 .f32) (main_arg11 : FVec F S2x4x1024 .f32) (main_arg12 : FVec F S2x8x6144 .f32) : IVec S_ 1 :=
  let main_v0 : FVec F S2x2x8448x512 .f32 := Host.absf main_arg3
  let main_cst : FVec F S_ .f32 := constant S_ .f32 0x7F800000#32
  let main_v1 : FVec F S2x2x8448x512 .f32 := broadcastInDim S2x2x8448x512 ![] bcast_S_S2x2x8448x512 main_cst
  let main_v2 : IVec S2x2x8448x512 1 := cmpf .olt main_v0 main_v1
  let main_c : IVec S_ 1 := constantI S_ 1 1#1
  let main_v3 : IVec S_ 1 := (fun x v => Host.reduce IntOp.andi x v reducesTo_S2x2x8448x512_S_d0_1_2_3 h_S_) main_v2 main_c
  main_v3
-- ==== Kernel.lean ====
abbrev S2x8192x1024 : Shape := ⟨3, ![2, 8192, 1024]⟩
abbrev S2x2x8448x512 : Shape := ⟨4, ![2, 2, 8448, 512]⟩
abbrev S2x8448x2560 : Shape := ⟨3, ![2, 8448, 2560]⟩
abbrev S2x8192x512 : Shape := ⟨3, ![2, 8192, 512]⟩
abbrev S1x512 : Shape := ⟨2, ![1, 512]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x4x1024 : Shape := ⟨3, ![2, 4, 1024]⟩
abbrev S2x8x6144 : Shape := ⟨3, ![2, 8, 6144]⟩
abbrev S2x8x6x1024 : Shape := ⟨4, ![2, 8, 6, 1024]⟩
abbrev S1x2x6x1024 : Shape := ⟨4, ![1, 2, 6, 1024]⟩
abbrev S2x6x1024 : Shape := ⟨3, ![2, 6, 1024]⟩
abbrev S1x1x6x1024 : Shape := ⟨4, ![1, 1, 6, 1024]⟩
abbrev S6x1024 : Shape := ⟨2, ![6, 1024]⟩
abbrev S1x6x1024 : Shape := ⟨3, ![1, 6, 1024]⟩
abbrev S2x1x6x1024 : Shape := ⟨4, ![2, 1, 6, 1024]⟩
abbrev S2x2x6x1024 : Shape := ⟨4, ![2, 2, 6, 1024]⟩
abbrev S2x2x6x1x1024 : Shape := ⟨5, ![2, 2, 6, 1, 1024]⟩
abbrev S512 : Shape := ⟨1, ![512]⟩
abbrev S1x512x1024 : Shape := ⟨3, ![1, 512, 1024]⟩
abbrev S2x1x512x512 : Shape := ⟨4, ![2, 1, 512, 512]⟩
abbrev S1x512x512 : Shape := ⟨3, ![1, 512, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x4x1024 : Shape := ⟨3, ![1, 4, 1024]⟩
abbrev S1x1x1x1x1024 : Shape := ⟨5, ![1, 1, 1, 1, 1024]⟩
abbrev S1x1x512x512 : Shape := ⟨4, ![1, 1, 512, 512]⟩
abbrev S512x512 : Shape := ⟨2, ![512, 512]⟩
abbrev S512x128 : Shape := ⟨2, ![512, 128]⟩
abbrev S512x1 : Shape := ⟨2, ![512, 1]⟩
abbrev S512x1024 : Shape := ⟨2, ![512, 1024]⟩
abbrev S1x1024 : Shape := ⟨2, ![1, 1024]⟩
abbrev S1024x1024 : Shape := ⟨2, ![1024, 1024]⟩
abbrev S1x1x1024 : Shape := ⟨3, ![1, 1, 1024]⟩

abbrev nBuf : Space → Nat
  | .hbm => 27
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x2x8448x512, .f32⟩
  | .hbm, ⟨2, _⟩ => ⟨S2x8448x2560, .bf16⟩
  | .hbm, ⟨3, _⟩ => ⟨S2x8192x512, .f32⟩
  | .hbm, ⟨4, _⟩ => ⟨S1x512, .f32⟩
  | .hbm, ⟨5, _⟩ => ⟨S2x1024x1024, .f32⟩
  | .hbm, ⟨6, _⟩ => ⟨S2x1024x4096, .f32⟩
  | .hbm, ⟨7, _⟩ => ⟨S2x4096x1024, .f32⟩
  | .hbm, ⟨8, _⟩ => ⟨S2x4x1024, .f32⟩
  | .hbm, ⟨9, _⟩ => ⟨S2x8x6144, .f32⟩
  | .hbm, ⟨10, _⟩ => ⟨S2x8x6x1024, .f32⟩
  | .hbm, ⟨11, _⟩ => ⟨S2x1024x1024, .bf16⟩
  | .hbm, ⟨12, _⟩ => ⟨S2x1024x4096, .bf16⟩
  | .hbm, ⟨13, _⟩ => ⟨S2x4096x1024, .bf16⟩
  | .hbm, ⟨14, _⟩ => ⟨S1x2x6x1024, .f32⟩
  | .hbm, ⟨15, _⟩ => ⟨S2x6x1024, .f32⟩
  | .hbm, ⟨16, _⟩ => ⟨S1x1x6x1024, .f32⟩
  | .hbm, ⟨17, _⟩ => ⟨S6x1024, .f32⟩
  | .hbm, ⟨18, _⟩ => ⟨S1x6x1024, .f32⟩
  | .hbm, ⟨19, _⟩ => ⟨S2x6x1024, .f32⟩
  | .hbm, ⟨20, _⟩ => ⟨S2x1x6x1024, .f32⟩
  | .hbm, ⟨21, _⟩ => ⟨S2x1x6x1024, .f32⟩
  | .hbm, ⟨22, _⟩ => ⟨S2x2x6x1024, .f32⟩
  | .hbm, ⟨23, _⟩ => ⟨S2x2x6x1x1024, .f32⟩
  | .hbm, ⟨24, _⟩ => ⟨S512, .f32⟩
  | .hbm, ⟨25, _⟩ => ⟨S1x512, .f32⟩
  | .hbm, ⟨26, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x1x512x512, .f32⟩
  | .local _ .vmem, ⟨3, _⟩ => ⟨S2x1x512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S1x1024x1024, .bf16⟩
  | .local _ .vmem, ⟨10, _⟩ => ⟨S1x1024x4096, .bf16⟩
  | .local _ .vmem, ⟨11, _⟩ => ⟨S1x4096x1024, .bf16⟩
  | .local _ .vmem, ⟨12, _⟩ => ⟨S1x4x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1x1x1x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1x1x1x1024, .f32⟩
  | .local _ .vmem, ⟨21, _⟩ => ⟨S1x512x1024, .f32⟩
  | .local _ .vmem, ⟨22, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def k0_mult2 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c0_i32 : BitVec 32 := 0#32
  let c0_i32_0 : BitVec 32 := 0#32
  let c0_i32_1 : BitVec 32 := 0#32
  ![c0_i32.toNat, arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c2048_i32 : BitVec 32 := 2048#32
  let c0_i32 : BitVec 32 := 0#32
  ![arg0.toNat, v2.toNat, c2048_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![arg0.toNat, c1_i32.toNat, c2_i32.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![arg0.toNat, c1_i32.toNat, c3_i32.toNat, c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![arg0.toNat, c1_i32.toNat, c4_i32.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![arg0.toNat, c1_i32.toNat, c5_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S2x8192x1024 : Shape := ⟨3, ![2, 8192, 1024]⟩
abbrev S2x2x8448x512 : Shape := ⟨4, ![2, 2, 8448, 512]⟩
abbrev S2x8448x2560 : Shape := ⟨3, ![2, 8448, 2560]⟩
abbrev S2x8192x512 : Shape := ⟨3, ![2, 8192, 512]⟩
abbrev S1x512 : Shape := ⟨2, ![1, 512]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x4x1024 : Shape := ⟨3, ![2, 4, 1024]⟩
abbrev S2x8x6144 : Shape := ⟨3, ![2, 8, 6144]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S2x8448x512 : Shape := ⟨3, ![2, 8448, 512]⟩
abbrev S1x2x8448x512 : Shape := ⟨4, ![1, 2, 8448, 512]⟩
abbrev S2x8448x4x128 : Shape := ⟨4, ![2, 8448, 4, 128]⟩
abbrev S512 : Shape := ⟨1, ![512]⟩
abbrev S_ : Shape := ⟨0, ![]⟩
abbrev S2x8448x4 : Shape := ⟨3, ![2, 8448, 4]⟩
abbrev S2x8448x4x1 : Shape := ⟨4, ![2, 8448, 4, 1]⟩
abbrev S1x1x512 : Shape := ⟨3, ![1, 1, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩

abbrev nBuf : Space → Nat
  | .hbm => 137
  | .vmem => 0
  | .smem => 0
  | _ => 0

abbrev hbmTy0_0 (i : Nat) : BufTy := match i % 128 with
  | 0 => ⟨S2x8192x1024, .f32⟩
  | 1 => ⟨S2x2x8448x512, .f32⟩
  | 2 => ⟨S2x8448x2560, .bf16⟩
  | 3 => ⟨S2x8192x512, .f32⟩
  | 4 => ⟨S1x512, .f32⟩
  | 5 => ⟨S2x1024x1024, .f32⟩
  | 6 => ⟨S2x1024x4096, .f32⟩
  | 7 => ⟨S2x4096x1024, .f32⟩
  | 8 => ⟨S2x4x1024, .f32⟩
  | 9 => ⟨S2x8x6144, .f32⟩
  | 10 => ⟨S1x2x6144, .f32⟩
  | 11 => ⟨S2x6144, .f32⟩
  | 12 => ⟨S2x1x6144, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S2x8448x512, .bf16⟩
  | 20 => ⟨S2x8448x512, .f32⟩
  | 21 => ⟨S1x2x8448x512, .f32⟩
  | 22 => ⟨S2x8448x512, .f32⟩
  | 23 => ⟨S1x2x8448x512, .f32⟩
  | 24 => ⟨S2x8448x512, .f32⟩
  | 25 => ⟨S2x8448x512, .f32⟩
  | 26 => ⟨S2x8448x4x128, .f32⟩
  | 27 => ⟨S512, .f32⟩
  | 28 => ⟨S2x8448x4x128, .f32⟩
  | 29 => ⟨S_, .f32⟩
  | 30 => ⟨S2x8448x4, .f32⟩
  | 31 => ⟨S2x8448x4x1, .f32⟩
  | 32 => ⟨S_, .f32⟩
  | 33 => ⟨S2x8448x4x1, .f32⟩
  | 34 => ⟨S2x8448x4x1, .f32⟩
  | 35 => ⟨S_, .f32⟩
  | 36 => ⟨S2x8448x4x1, .f32⟩
  | 37 => ⟨S2x8448x4x1, .f32⟩
  | 38 => ⟨S2x8448x4x1, .f32⟩
  | 39 => ⟨S2x8448x4x128, .f32⟩
  | 40 => ⟨S2x8448x4x128, .f32⟩
  | 41 => ⟨S2x8448x512, .f32⟩
  | 42 => ⟨S1x1x512, .f32⟩
  | 43 => ⟨S2x8448x512, .f32⟩
  | 44 => ⟨S2x8448x512, .f32⟩
  | 45 => ⟨S2x8448x512, .f32⟩
  | 46 => ⟨S2x8448x512, .f32⟩
  | 47 => ⟨S_, .f32⟩
  | 48 => ⟨S2x8448x512, .f32⟩
  | 49 => ⟨S2x8448x512, .f32⟩
  | 50 => ⟨S_, .f32⟩
  | 51 => ⟨S2x8448x512, .f32⟩
  | 52 => ⟨S2x8448x512, .f32⟩
  | 53 => ⟨S2x8448x512, .f32⟩
  | 54 => ⟨S2x8448x512, .f32⟩
  | 55 => ⟨S2x8192x512, .f32⟩
  | 56 => ⟨S2x8192x1024, .f32⟩
  | 57 => ⟨S1x1024x1024, .f32⟩
  | 58 => ⟨S1024x1024, .f32⟩
  | 59 => ⟨S2x8192x1024, .f32⟩
  | 60 => ⟨S1x1x1024, .f32⟩
  | 61 => ⟨S1024, .f32⟩
  | 62 => ⟨S2x8192x1024, .f32⟩
  | 63 => ⟨S_, .f32⟩
  | 64 => ⟨S2x8192, .f32⟩
  | 65 => ⟨S2x8192x1, .f32⟩
  | 66 => ⟨S_, .f32⟩
  | 67 => ⟨S2x8192x1, .f32⟩
  | 68 => ⟨S2x8192x1, .f32⟩
  | 69 => ⟨S_, .f32⟩
  | 70 => ⟨S2x8192x1, .f32⟩
  | 71 => ⟨S2x8192x1, .f32⟩
  | 72 => ⟨S2x8192x1, .f32⟩
  | 73 => ⟨S2x8192x1024, .f32⟩
  | 74 => ⟨S2x8192x1024, .f32⟩
  | 75 => ⟨S1x1x1024, .f32⟩
  | 76 => ⟨S2x8192x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S1x1x1024, .f32⟩
  | 82 => ⟨S1024, .f32⟩
  | 83 => ⟨S2x8192x1024, .f32⟩
  | 84 => ⟨S_, .f32⟩
  | 85 => ⟨S2x8192, .f32⟩
  | 86 => ⟨S2x8192x1, .f32⟩
  | 87 => ⟨S_, .f32⟩
  | 88 => ⟨S2x8192x1, .f32⟩
  | 89 => ⟨S2x8192x1, .f32⟩
  | 90 => ⟨S_, .f32⟩
  | 91 => ⟨S2x8192x1, .f32⟩
  | 92 => ⟨S2x8192x1, .f32⟩
  | 93 => ⟨S2x8192x1, .f32⟩
  | 94 => ⟨S2x8192x1024, .f32⟩
  | 95 => ⟨S2x8192x1024, .f32⟩
  | 96 => ⟨S1x1x1024, .f32⟩
  | 97 => ⟨S2x8192x1024, .f32⟩
  | 98 => ⟨S2x8192x1024, .f32⟩
  | 99 => ⟨S_, .f32⟩
  | 100 => ⟨S2x1x1024, .f32⟩
  | 101 => ⟨S2x1x1024, .f32⟩
  | 102 => ⟨S2x8192x1024, .f32⟩
  | 103 => ⟨S2x8192x1024, .f32⟩
  | 104 => ⟨S2x8192x1024, .f32⟩
  | 105 => ⟨S2x8192x1024, .f32⟩
  | 106 => ⟨S1x1024x4096, .f32⟩
  | 107 => ⟨S1024x4096, .f32⟩
  | 108 => ⟨S1x4096x1024, .f32⟩
  | 109 => ⟨S4096x1024, .f32⟩
  | 110 => ⟨S2x8192x4096, .f32⟩
  | 111 => ⟨S_, .f32⟩
  | 112 => ⟨S2x8192x4096, .f32⟩
  | 113 => ⟨S2x8192x4096, .f32⟩
  | 114 => ⟨S2x8192x4096, .f32⟩
  | 115 => ⟨S2x8192x1024, .f32⟩
  | 116 => ⟨S1x1x1024, .f32⟩
  | 117 => ⟨S1024, .f32⟩
  | 118 => ⟨S2x8192x1024, .f32⟩
  | 119 => ⟨S_, .f32⟩
  | 120 => ⟨S2x8192, .f32⟩
  | 121 => ⟨S2x8192x1, .f32⟩
  | 122 => ⟨S_, .f32⟩
  | 123 => ⟨S2x8192x1, .f32⟩
  | 124 => ⟨S2x8192x1, .f32⟩
  | 125 => ⟨S_, .f32⟩
  | 126 => ⟨S2x8192x1, .f32⟩
  | 127 => ⟨S2x8192x1, .f32⟩
  | _ => ⟨S2x8192x1024, .f32⟩

abbrev hbmTy0_1 (i : Nat) : BufTy := match i % 128 with
  | 0 => ⟨S2x8192x1, .f32⟩
  | 1 => ⟨S2x8192x1024, .f32⟩
  | 2 => ⟨S2x8192x1024, .f32⟩
  | 3 => ⟨S1x1x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_5 : Ref sig .tc := ⟨.hbm, 84, rfl⟩
abbrev main_v60 : Ref sig .tc := ⟨.hbm, 85, rfl⟩
abbrev main_v61 : Ref sig .tc := ⟨.hbm, 86, rfl⟩
abbrev main_cst_6 : Ref sig .tc := ⟨.hbm, 87, rfl⟩
abbrev main_v62 : Ref sig .tc := ⟨.hbm, 88, rfl⟩
abbrev main_v63 : Ref sig .tc := ⟨.hbm, 89, rfl⟩
abbrev main_cst_7 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call1_cst : Ref sig .tc := ⟨.hbm, 111, rfl⟩
abbrev main_call1_v0 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_9 : Ref sig .tc := ⟨.hbm, 119, rfl⟩
abbrev main_v89 : Ref sig .tc := ⟨.hbm, 120, rfl⟩
abbrev main_v90 : Ref sig .tc := ⟨.hbm, 121, rfl⟩
abbrev main_cst_10 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Kernel2.lean ====
abbrev S2x8192x4x128 : Shape := ⟨4, ![2, 8192, 4, 128]⟩
abbrev S2x8192x4x64 : Shape := ⟨4, ![2, 8192, 4, 64]⟩
abbrev S2x8448x4x128 : Shape := ⟨4, ![2, 8448, 4, 128]⟩
abbrev S2x8448x64 : Shape := ⟨3, ![2, 8448, 64]⟩
abbrev S_ : Shape := ⟨0, ![]⟩
abbrev S2x8448x128 : Shape := ⟨3, ![2, 8448, 128]⟩
abbrev S2x8448x1x128 : Shape := ⟨4, ![2, 8448, 1, 128]⟩
abbrev S2x8192x4x256 : Shape := ⟨4, ![2, 8192, 4, 256]⟩
abbrev S2x4x8192x256 : Shape := ⟨4, ![2, 4, 8192, 256]⟩
abbrev S2x8448x4x256 : Shape := ⟨4, ![2, 8448, 4, 256]⟩
abbrev S2x4x8448x256 : Shape := ⟨4, ![2, 4, 8448, 256]⟩
abbrev S2x4x8x8448 : Shape := ⟨4, ![2, 4, 8, 8448]⟩
abbrev S2x4x128x8448 : Shape := ⟨4, ![2, 4, 128, 8448]⟩
abbrev S2x4x136x8448 : Shape := ⟨4, ![2, 4, 136, 8448]⟩
abbrev S2x8192x512 : Shape := ⟨3, ![2, 8192, 512]⟩
abbrev S1x1x1024x256 : Shape := ⟨4, ![1, 1, 1024, 256]⟩
abbrev S1x1x8448x256 : Shape := ⟨4, ![1, 1, 8448, 256]⟩
abbrev S1x1x136x8448 : Shape := ⟨4, ![1, 1, 136, 8448]⟩
abbrev S1x1024x128 : Shape := ⟨3, ![1, 1024, 128]⟩
abbrev S8448x256 : Shape := ⟨2, ![8448, 256]⟩
abbrev S136x8448 : Shape := ⟨2, ![136, 8448]⟩
abbrev S1x1x256x256 : Shape := ⟨4, ![1, 1, 256, 256]⟩
abbrev S256x256 : Shape := ⟨2, ![256, 256]⟩
abbrev S256 : Shape := ⟨1, ![256]⟩
abbrev S1x256 : Shape := ⟨2, ![1, 256]⟩
abbrev S136x256 : Shape := ⟨2, ![136, 256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 25
  | .vmem => 6
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x64, .f32⟩
  | .hbm, ⟨2, _⟩ => ⟨S2x8448x4x128, .f32⟩
  | .hbm, ⟨3, _⟩ => ⟨S2x8448x64, .f32⟩
  | .hbm, ⟨4, _⟩ => ⟨S2x8448x4x128, .f32⟩
  | .hbm, ⟨5, _⟩ => ⟨S_, .f32⟩
  | .hbm, ⟨6, _⟩ => ⟨S2x8448x64, .f32⟩
  | .hbm, ⟨7, _⟩ => ⟨S2x8448x128, .f32⟩
  | .hbm, ⟨8, _⟩ => ⟨S2x8448x1x128, .f32⟩
  | .hbm, ⟨9, _⟩ => ⟨S2x8448x4x128, .f32⟩
  | .hbm, ⟨10, _⟩ => ⟨S_, .f32⟩
  | .hbm, ⟨11, _⟩ => ⟨S2x8192x4x64, .f32⟩
  | .hbm, ⟨12, _⟩ => ⟨S2x8192x4x128, .f32⟩
  | .hbm, ⟨13, _⟩ => ⟨S2x8192x4x256, .f32⟩
  | .hbm, ⟨14, _⟩ => ⟨S2x4x8192x256, .f32⟩
  | .hbm, ⟨15, _⟩ => ⟨S2x4x8192x256, .bf16⟩
  | .hbm, ⟨16, _⟩ => ⟨S2x8448x4x256, .f32⟩
  | .hbm, ⟨17, _⟩ => ⟨S2x4x8448x256, .f32⟩
  | .hbm, ⟨18, _⟩ => ⟨S2x4x8448x256, .bf16⟩
  | .hbm, ⟨19, _⟩ => ⟨S_, .bf16⟩
  | .hbm, ⟨20, _⟩ => ⟨S2x4x8x8448, .bf16⟩
  | .hbm, ⟨21, _⟩ => ⟨S2x4x128x8448, .f32⟩
  | .hbm, ⟨22, _⟩ => ⟨S2x4x128x8448, .bf16⟩
  | .hbm, ⟨23, _⟩ => ⟨S2x4x136x8448, .bf16⟩
  | .hbm, ⟨24, _⟩ => ⟨S2x8192x512, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x8448x256, .bf16⟩
  | .local _ .vmem, ⟨3, _⟩ => ⟨S1x1x136x8448, .bf16⟩
  | .local _ .vmem, ⟨4, _⟩ => ⟨S1x1024x128, .f32⟩
  | .local _ .vmem, ⟨5, _⟩ => ⟨S1x1024x128, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x8448x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x1x136x8448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "scale_log2e" => some (((Real.sqrt 192)⁻¹ * (Real.log 2)⁻¹ : ℝ) : EReal)
  | _ => none
-- ==== Reference2Ideal.lean ====
abbrev S2x8192x4x128 : Shape := ⟨4, ![2, 8192, 4, 128]⟩
abbrev S2x8192x4x64 : Shape := ⟨4, ![2, 8192, 4, 64]⟩
abbrev S2x8448x4x128 : Shape := ⟨4, ![2, 8448, 4, 128]⟩
abbrev S2x8448x64 : Shape := ⟨3, ![2, 8448, 64]⟩
abbrev S_ : Shape := ⟨0, ![]⟩
abbrev S2x4x8192x8448 : Shape := ⟨4, ![2, 4, 8192, 8448]⟩
abbrev S2x8448x8192x4 : Shape := ⟨4, ![2, 8448, 8192, 4]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x512 : Shape := ⟨3, ![2, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x64, .f32⟩
  | .hbm, ⟨2, _⟩ => ⟨S2x8448x4x128, .f32⟩
  | .hbm, ⟨3, _⟩ => ⟨S2x8448x64, .f32⟩
  | .hbm, ⟨4, _⟩ => ⟨S2x8448x4x128, .f32⟩
  | .hbm, ⟨5, _⟩ => ⟨S_, .f32⟩
  | .hbm, ⟨6, _⟩ => ⟨S_, .f32⟩
  | .hbm, ⟨7, _⟩ => ⟨S2x4x8192x8448, .f32⟩
  | .hbm, ⟨8, _⟩ => ⟨S2x8448x8192x4, .f32⟩
  | .hbm, ⟨9, _⟩ => ⟨S2x4x8192x8448, .f32⟩
  | .hbm, ⟨10, _⟩ => ⟨S2x4x8192x8448, .f32⟩
  | .hbm, ⟨11, _⟩ => ⟨S2x4x8192x8448, .f32⟩
  | .hbm, ⟨12, _⟩ => ⟨S2x4x8192x8448, .f32⟩
  | .hbm, ⟨13, _⟩ => ⟨S_, .f32⟩
  | .hbm, ⟨14, _⟩ => ⟨S2x4x8192, .f32⟩
  | .hbm, ⟨15, _⟩ => ⟨S_, .f32⟩
  | .hbm, ⟨16, _⟩ => ⟨S2x4x8192, .f32⟩
  | .hbm, ⟨17, _⟩ => ⟨S2x4x8192, .f32⟩
  | .hbm, ⟨18, _⟩ => ⟨S2x4x8192x1, .f32⟩
  | .hbm, ⟨19, _⟩ => ⟨S2x4x8192x8448, .f32⟩
  | .hbm, ⟨20, _⟩ => ⟨S2x4x8192x8448, .f32⟩
  | .hbm, ⟨21, _⟩ => ⟨S2x4x8192x8448, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x8448, .f32⟩
  | .hbm, ⟨26, _⟩ => ⟨S2x4x8192x8448, .f32⟩
  | .hbm, ⟨27, _⟩ => ⟨S2x4x128x8192, .f32⟩
  | .hbm, ⟨28, _⟩ => ⟨S2x8192x4x128, .f32⟩
  | .hbm, ⟨29, _⟩ => ⟨S2x8192x512, .f32⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x2x8448x512 : Shape := ⟨4, ![2, 2, 8448, 512]⟩
abbrev S2x8448x1024 : Shape := ⟨3, ![2, 8448, 1024]⟩
abbrev S1x512 : Shape := ⟨2, ![1, 512]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x4x1024 : Shape := ⟨3, ![2, 4, 1024]⟩
abbrev S2x8x6144 : Shape := ⟨3, ![2, 8, 6144]⟩
abbrev S2x8x6x1024 : Shape := ⟨4, ![2, 8, 6, 1024]⟩
abbrev S1x2x6x1024 : Shape := ⟨4, ![1, 2, 6, 1024]⟩
abbrev S2x6x1024 : Shape := ⟨3, ![2, 6, 1024]⟩
abbrev S1x1x6x1024 : Shape := ⟨4, ![1, 1, 6, 1024]⟩
abbrev S6x1024 : Shape := ⟨2, ![6, 1024]⟩
abbrev S1x6x1024 : Shape := ⟨3, ![1, 6, 1024]⟩
abbrev S2x1x6x1024 : Shape := ⟨4, ![2, 1, 6, 1024]⟩
abbrev S2x2x6x1024 : Shape := ⟨4, ![2, 2, 6, 1024]⟩
abbrev S2x2x6x1x1024 : Shape := ⟨5, ![2, 2, 6, 1, 1024]⟩
abbrev S512 : Shape := ⟨1, ![512]⟩
abbrev S1x512x1024 : Shape := ⟨3, ![1, 512, 1024]⟩
abbrev S2x1x512x512 : Shape := ⟨4, ![2, 1, 512, 512]⟩
abbrev S1x512x512 : Shape := ⟨3, ![1, 512, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x4x1024 : Shape := ⟨3, ![1, 4, 1024]⟩
abbrev S1x1x1x1x1024 : Shape := ⟨5, ![1, 1, 1, 1, 1024]⟩
abbrev S1x1x512x512 : Shape := ⟨4, ![1, 1, 512, 512]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩
abbrev S512x1024 : Shape := ⟨2, ![512, 1024]⟩
abbrev S1x1024 : Shape := ⟨2, ![1, 1024]⟩
abbrev S1024x1024 : Shape := ⟨2, ![1024, 1024]⟩
abbrev S1x1x1024 : Shape := ⟨3, ![1, 1, 1024]⟩

abbrev nBuf : Space → Nat
  | .hbm => 34
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S2x2x8448x512, .f32⟩
  | .hbm, ⟨2, _⟩ => ⟨S2x8448x1024, .bf16⟩
  | .hbm, ⟨3, _⟩ => ⟨S2x2x8448x512, .f32⟩
  | .hbm, ⟨4, _⟩ => ⟨S2x8448x1024, .bf16⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S2x1024x1024, .f32⟩
  | .hbm, ⟨9, _⟩ => ⟨S2x1024x4096, .f32⟩
  | .hbm, ⟨10, _⟩ => ⟨S2x4096x1024, .f32⟩
  | .hbm, ⟨11, _⟩ => ⟨S2x4x1024, .f32⟩
  | .hbm, ⟨12, _⟩ => ⟨S2x8x6144, .f32⟩
  | .hbm, ⟨13, _⟩ => ⟨S2x8x6x1024, .f32⟩
  | .hbm, ⟨14, _⟩ => ⟨S2x1024x1024, .bf16⟩
  | .hbm, ⟨15, _⟩ => ⟨S2x1024x4096, .bf16⟩
  | .hbm, ⟨16, _⟩ => ⟨S2x4096x1024, .bf16⟩
  | .hbm, ⟨17, _⟩ => ⟨S1x2x6x1024, .f32⟩
  | .hbm, ⟨18, _⟩ => ⟨S2x6x1024, .f32⟩
  | .hbm, ⟨19, _⟩ => ⟨S1x1x6x1024, .f32⟩
  | .hbm, ⟨20, _⟩ => ⟨S6x1024, .f32⟩
  | .hbm, ⟨21, _⟩ => ⟨S1x6x1024, .f32⟩
  | .hbm, ⟨22, _⟩ => ⟨S2x6x1024, .f32⟩
  | .hbm, ⟨23, _⟩ => ⟨S2x1x6x1024, .f32⟩
  | .hbm, ⟨24, _⟩ => ⟨S2x1x6x1024, .f32⟩
  | .hbm, ⟨25, _⟩ => ⟨S2x2x6x1024, .f32⟩
  | .hbm, ⟨26, _⟩ => ⟨S2x2x6x1x1024, .f32⟩
  | .hbm, ⟨27, _⟩ => ⟨S512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x1x512x512, .f32⟩
  | .local _ .vmem, ⟨3, _⟩ => ⟨S2x1x512x512, .f32⟩
  | .local _ .vmem, ⟨4, _⟩ => ⟨S1x512x512, .bf16⟩
  | .local _ .vmem, ⟨5, _⟩ => ⟨S1x512x512, .bf16⟩
  | .local _ .vmem, ⟨6, _⟩ => ⟨S2x1x512x512, .f32⟩
  | .local _ .vmem, ⟨7, _⟩ => ⟨S2x1x512x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x1024x1024, .bf16⟩
  | .local _ .vmem, ⟨14, _⟩ => ⟨S1x1024x4096, .bf16⟩
  | .local _ .vmem, ⟨15, _⟩ => ⟨S1x4096x1024, .bf16⟩
  | .local _ .vmem, ⟨16, _⟩ => ⟨S1x4x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1x1x1x1024, .f32⟩
  | .local _ .vmem, ⟨21, _⟩ => ⟨S1x1x1x1x1024, .f32⟩
  | .local _ .vmem, ⟨22, _⟩ => ⟨S1x1x1x1x1024, .f32⟩
  | .local _ .vmem, ⟨23, _⟩ => ⟨S1x1x1x1x1024, .f32⟩
  | .local _ .vmem, ⟨24, _⟩ => ⟨S1x1x1x1x1024, .f32⟩
  | .local _ .vmem, ⟨25, _⟩ => ⟨S1x512x1024, .f32⟩
  | .local _ .vmem, ⟨26, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def k0_mult2 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def k0_mult3 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def k0_mult4 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c0_i32 : BitVec 32 := 0#32
  let c0_i32_0 : BitVec 32 := 0#32
  let c0_i32_1 : BitVec 32 := 0#32
  ![c0_i32.toNat, arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c512_i32_0 : BitVec 32 := 512#32
  let c0_i32 : BitVec 32 := 0#32
  ![arg0.toNat, v2.toNat, c512_i32_0.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c0_i32 : BitVec 32 := 0#32
  let c0_i32_0 : BitVec 32 := 0#32
  let c0_i32_1 : BitVec 32 := 0#32
  ![c0_i32.toNat, arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![arg0.toNat, c1_i32.toNat, c2_i32.toNat, c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![arg0.toNat, c1_i32.toNat, c3_i32.toNat, c0_i32.toNat, c0_i32_0.toNat]

def cc0_transform_14 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![arg0.toNat, c1_i32.toNat, c4_i32.toNat, c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![arg0.toNat, c1_i32.toNat, c5_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S2x8192x1024 : Shape := ⟨3, ![2, 8192, 1024]⟩
abbrev S2x2x8448x512 : Shape := ⟨4, ![2, 2, 8448, 512]⟩
abbrev S2x8448x1024 : Shape := ⟨3, ![2, 8448, 1024]⟩
abbrev S1x512 : Shape := ⟨2, ![1, 512]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x4x1024 : Shape := ⟨3, ![2, 4, 1024]⟩
abbrev S2x8x6144 : Shape := ⟨3, ![2, 8, 6144]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S2x8448x512 : Shape := ⟨3, ![2, 8448, 512]⟩
abbrev S1x2x8448x512 : Shape := ⟨4, ![1, 2, 8448, 512]⟩
abbrev S2x8448x4x128 : Shape := ⟨4, ![2, 8448, 4, 128]⟩
abbrev S512 : Shape := ⟨1, ![512]⟩
abbrev S_ : Shape := ⟨0, ![]⟩
abbrev S2x8448x4 : Shape := ⟨3, ![2, 8448, 4]⟩
abbrev S2x8448x4x1 : Shape := ⟨4, ![2, 8448, 4, 1]⟩
abbrev S1x1x512 : Shape := ⟨3, ![1, 1, 512]⟩
abbrev S2x8448x8x64 : Shape := ⟨4, ![2, 8448, 8, 64]⟩
abbrev S2x8448x8 : Shape := ⟨3, ![2, 8448, 8]⟩
abbrev S2x8448x8x1 : Shape := ⟨4, ![2, 8448, 8, 1]⟩
abbrev S8x64 : Shape := ⟨2, ![8, 64]⟩
abbrev S1x1x8x64 : Shape := ⟨4, ![1, 1, 8, 64]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩

abbrev nBuf : Space → Nat
  | .hbm => 184
  | .vmem => 0
  | .smem => 0
  | _ => 0

abbrev hbmTy0_0 (i : Nat) : BufTy := match i % 128 with
  | 0 => ⟨S2x8192x1024, .f32⟩
  | 1 => ⟨S2x2x8448x512, .f32⟩
  | 2 => ⟨S2x8448x1024, .bf16⟩
  | 3 => ⟨S2x2x8448x512, .f32⟩
  | 4 => ⟨S2x8448x1024, .bf16⟩
  | 5 => ⟨S1x512, .f32⟩
  | 6 => ⟨S1x512, .f32⟩
  | 7 => ⟨S1x512, .f32⟩
  | 8 => ⟨S2x1024x1024, .f32⟩
  | 9 => ⟨S2x1024x4096, .f32⟩
  | 10 => ⟨S2x4096x1024, .f32⟩
  | 11 => ⟨S2x4x1024, .f32⟩
  | 12 => ⟨S2x8x6144, .f32⟩
  | 13 => ⟨S1x2x6144, .f32⟩
  | 14 => ⟨S2x6144, .f32⟩
  | 15 => ⟨S2x1x6144, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S2x1x1024, .f32⟩
  | 22 => ⟨S2x8448x512, .bf16⟩
  | 23 => ⟨S2x8448x512, .f32⟩
  | 24 => ⟨S2x8448x1024, .f32⟩
  | 25 => ⟨S2x8448x512, .f32⟩
  | 26 => ⟨S2x8448x512, .f32⟩
  | 27 => ⟨S1x2x8448x512, .f32⟩
  | 28 => ⟨S2x8448x512, .f32⟩
  | 29 => ⟨S1x2x8448x512, .f32⟩
  | 30 => ⟨S2x8448x512, .f32⟩
  | 31 => ⟨S2x8448x512, .f32⟩
  | 32 => ⟨S2x8448x4x128, .f32⟩
  | 33 => ⟨S512, .f32⟩
  | 34 => ⟨S2x8448x4x128, .f32⟩
  | 35 => ⟨S_, .f32⟩
  | 36 => ⟨S2x8448x4, .f32⟩
  | 37 => ⟨S2x8448x4x1, .f32⟩
  | 38 => ⟨S_, .f32⟩
  | 39 => ⟨S2x8448x4x1, .f32⟩
  | 40 => ⟨S2x8448x4x1, .f32⟩
  | 41 => ⟨S_, .f32⟩
  | 42 => ⟨S2x8448x4x1, .f32⟩
  | 43 => ⟨S2x8448x4x1, .f32⟩
  | 44 => ⟨S2x8448x4x1, .f32⟩
  | 45 => ⟨S2x8448x4x128, .f32⟩
  | 46 => ⟨S2x8448x4x128, .f32⟩
  | 47 => ⟨S2x8448x512, .f32⟩
  | 48 => ⟨S1x1x512, .f32⟩
  | 49 => ⟨S2x8448x512, .f32⟩
  | 50 => ⟨S2x8448x512, .f32⟩
  | 51 => ⟨S2x8448x512, .f32⟩
  | 52 => ⟨S2x8448x512, .f32⟩
  | 53 => ⟨S_, .f32⟩
  | 54 => ⟨S2x8448x512, .f32⟩
  | 55 => ⟨S2x8448x512, .f32⟩
  | 56 => ⟨S_, .f32⟩
  | 57 => ⟨S2x8448x512, .f32⟩
  | 58 => ⟨S2x8448x512, .f32⟩
  | 59 => ⟨S2x8448x512, .f32⟩
  | 60 => ⟨S1x2x8448x512, .f32⟩
  | 61 => ⟨S2x8448x512, .f32⟩
  | 62 => ⟨S1x2x8448x512, .f32⟩
  | 63 => ⟨S2x8448x512, .f32⟩
  | 64 => ⟨S2x8448x512, .f32⟩
  | 65 => ⟨S2x8448x8x64, .f32⟩
  | 66 => ⟨S512, .f32⟩
  | 67 => ⟨S512, .f32⟩
  | 68 => ⟨S_, .f32⟩
  | 69 => ⟨S2x8448x8, .f32⟩
  | 70 => ⟨S2x8448x8x1, .f32⟩
  | 71 => ⟨S_, .f32⟩
  | 72 => ⟨S2x8448x8x1, .f32⟩
  | 73 => ⟨S2x8448x8x1, .f32⟩
  | 74 => ⟨S2x8448x8x64, .f32⟩
  | 75 => ⟨S2x8448x8x64, .f32⟩
  | 76 => ⟨S2x8448x8x64, .f32⟩
  | 77 => ⟨S_, .f32⟩
  | 78 => ⟨S2x8448x8, .f32⟩
  | 79 => ⟨S2x8448x8x1, .f32⟩
  | 80 => ⟨S_, .f32⟩
  | 81 => ⟨S2x8448x8x1, .f32⟩
  | 82 => ⟨S2x8448x8x1, .f32⟩
  | 83 => ⟨S2x8448x8x64, .f32⟩
  | 84 => ⟨S2x8448x8x64, .f32⟩
  | 85 => ⟨S_, .f32⟩
  | 86 => ⟨S2x8448x8x1, .f32⟩
  | 87 => ⟨S2x8448x8x1, .f32⟩
  | 88 => ⟨S2x8448x8x1, .f32⟩
  | 89 => ⟨S2x8448x8x64, .f32⟩
  | 90 => ⟨S2x8448x8x64, .f32⟩
  | 91 => ⟨S8x64, .f32⟩
  | 92 => ⟨S1x1x8x64, .f32⟩
  | 93 => ⟨S2x8448x8x64, .f32⟩
  | 94 => ⟨S2x8448x8x64, .f32⟩
  | 95 => ⟨S8x64, .f32⟩
  | 96 => ⟨S1x1x8x64, .f32⟩
  | 97 => ⟨S2x8448x8x64, .f32⟩
  | 98 => ⟨S2x8448x8x64, .f32⟩
  | 99 => ⟨S2x8448x512, .f32⟩
  | 100 => ⟨S2x8448x512, .f32⟩
  | 101 => ⟨S2x8448x512, .f32⟩
  | 102 => ⟨S2x8448x1024, .f32⟩
  | 103 => ⟨S2x8192x1024, .f32⟩
  | 104 => ⟨S1x1024x1024, .f32⟩
  | 105 => ⟨S1024x1024, .f32⟩
  | 106 => ⟨S2x8192x1024, .f32⟩
  | 107 => ⟨S1x1x1024, .f32⟩
  | 108 => ⟨S1024, .f32⟩
  | 109 => ⟨S2x8192x1024, .f32⟩
  | 110 => ⟨S_, .f32⟩
  | 111 => ⟨S2x8192, .f32⟩
  | 112 => ⟨S2x8192x1, .f32⟩
  | 113 => ⟨S_, .f32⟩
  | 114 => ⟨S2x8192x1, .f32⟩
  | 115 => ⟨S2x8192x1, .f32⟩
  | 116 => ⟨S_, .f32⟩
  | 117 => ⟨S2x8192x1, .f32⟩
  | 118 => ⟨S2x8192x1, .f32⟩
  | 119 => ⟨S2x8192x1, .f32⟩
  | 120 => ⟨S2x8192x1024, .f32⟩
  | 121 => ⟨S2x8192x1024, .f32⟩
  | 122 => ⟨S1x1x1024, .f32⟩
  | 123 => ⟨S2x8192x1024, .f32⟩
  | 124 => ⟨S2x8192x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S1x1x1024, .f32⟩
  | 1 => ⟨S1024, .f32⟩
  | 2 => ⟨S2x8192x1024, .f32⟩
  | 3 => ⟨S_, .f32⟩
  | 4 => ⟨S2x8192, .f32⟩
  | 5 => ⟨S2x8192x1, .f32⟩
  | 6 => ⟨S_, .f32⟩
  | 7 => ⟨S2x8192x1, .f32⟩
  | 8 => ⟨S2x8192x1, .f32⟩
  | 9 => ⟨S_, .f32⟩
  | 10 => ⟨S2x8192x1, .f32⟩
  | 11 => ⟨S2x8192x1, .f32⟩
  | 12 => ⟨S2x8192x1, .f32⟩
  | 13 => ⟨S2x8192x1024, .f32⟩
  | 14 => ⟨S2x8192x1024, .f32⟩
  | 15 => ⟨S1x1x1024, .f32⟩
  | 16 => ⟨S2x8192x1024, .f32⟩
  | 17 => ⟨S2x8192x1024, .f32⟩
  | 18 => ⟨S_, .f32⟩
  | 19 => ⟨S2x1x1024, .f32⟩
  | 20 => ⟨S2x1x1024, .f32⟩
  | 21 => ⟨S2x8192x1024, .f32⟩
  | 22 => ⟨S2x8192x1024, .f32⟩
  | 23 => ⟨S2x8192x1024, .f32⟩
  | 24 => ⟨S2x8192x1024, .f32⟩
  | 25 => ⟨S1x1024x4096, .f32⟩
  | 26 => ⟨S1024x4096, .f32⟩
  | 27 => ⟨S1x4096x1024, .f32⟩
  | 28 => ⟨S4096x1024, .f32⟩
  | 29 => ⟨S2x8192x4096, .f32⟩
  | 30 => ⟨S_, .f32⟩
  | 31 => ⟨S2x8192x4096, .f32⟩
  | 32 => ⟨S2x8192x4096, .f32⟩
  | 33 => ⟨S2x8192x4096, .f32⟩
  | 34 => ⟨S2x8192x1024, .f32⟩
  | 35 => ⟨S1x1x1024, .f32⟩
  | 36 => ⟨S1024, .f32⟩
  | 37 => ⟨S2x8192x1024, .f32⟩
  | 38 => ⟨S_, .f32⟩
  | 39 => ⟨S2x8192, .f32⟩
  | 40 => ⟨S2x8192x1, .f32⟩
  | 41 => ⟨S_, .f32⟩
  | 42 => ⟨S2x8192x1, .f32⟩
  | 43 => ⟨S2x8192x1, .f32⟩
  | 44 => ⟨S_, .f32⟩
  | 45 => ⟨S2x8192x1, .f32⟩
  | 46 => ⟨S2x8192x1, .f32⟩
  | 47 => ⟨S2x8192x1, .f32⟩
  | 48 => ⟨S2x8192x1024, .f32⟩
  | 49 => ⟨S2x8192x1024, .f32⟩
  | 50 => ⟨S1x1x1024, .f32⟩
  | 51 => ⟨S2x8192x1024, .f32⟩
  | 52 => ⟨S2x8192x1024, .f32⟩
  | 53 => ⟨S2x8192x1024, .f32⟩
  | 54 => ⟨S2x8192x1024, .f32⟩
  | 55 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_cst_10 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_12 : Ref sig .tc := ⟨.hbm, 131, rfl⟩
abbrev main_v105 : Ref sig .tc := ⟨.hbm, 132, rfl⟩
abbrev main_v106 : Ref sig .tc := ⟨.hbm, 133, rfl⟩
abbrev main_cst_13 : Ref sig .tc := ⟨.hbm, 134, rfl⟩
abbrev main_v107 : Ref sig .tc := ⟨.hbm, 135, rfl⟩
abbrev main_v108 : Ref sig .tc := ⟨.hbm, 136, rfl⟩
abbrev main_cst_14 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_15 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_call0_cst : Ref sig .tc := ⟨.hbm, 158, rfl⟩
abbrev main_call0_v0 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_16 : Ref sig .tc := ⟨.hbm, 166, rfl⟩
abbrev main_v134 : Ref sig .tc := ⟨.hbm, 167, rfl⟩
abbrev main_v135 : Ref sig .tc := ⟨.hbm, 168, rfl⟩
abbrev main_cst_17 : Ref sig .tc := ⟨.hbm, 169, rfl⟩
abbrev main_v136 : Ref sig .tc := ⟨.hbm, 170, rfl⟩
abbrev main_v137 : Ref sig .tc := ⟨.hbm, 171, rfl⟩
abbrev main_cst_18 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩

abbrev nD : Nat := 1
abbrev τ : Topo := Topo.v7x

variable {F : FTy → Type} [FloatOps F]
-- ==== Kernel4.lean ====
abbrev S2x256x1024 : Shape := ⟨3, ![2, 256, 1024]⟩
abbrev S2x8192x1024 : Shape := ⟨3, ![2, 8192, 1024]⟩
abbrev S2x4x1024 : Shape := ⟨3, ![2, 4, 1024]⟩
abbrev S2x8x6144 : Shape := ⟨3, ![2, 8, 6144]⟩
abbrev S1x1024x3008 : Shape := ⟨3, ![1, 1024, 3008]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S64 : Shape := ⟨1, ![64]⟩
abbrev S2x8x6x1024 : Shape := ⟨4, ![2, 8, 6, 1024]⟩
abbrev S1x2x6x1024 : Shape := ⟨4, ![1, 2, 6, 1024]⟩
abbrev S2x6x1024 : Shape := ⟨3, ![2, 6, 1024]⟩
abbrev S1x1x6x1024 : Shape := ⟨4, ![1, 1, 6, 1024]⟩
abbrev S6x1024 : Shape := ⟨2, ![6, 1024]⟩
abbrev S1x6x1024 : Shape := ⟨3, ![1, 6, 1024]⟩
abbrev S2x1x6x1024 : Shape := ⟨4, ![2, 1, 6, 1024]⟩
abbrev S2x2x6x1024 : Shape := ⟨4, ![2, 2, 6, 1024]⟩
abbrev S2x2x6x1x1024 : Shape := ⟨5, ![2, 2, 6, 1, 1024]⟩
abbrev S1024x3008 : Shape := ⟨2, ![1024, 3008]⟩
abbrev S1024x64 : Shape := ⟨2, ![1024, 64]⟩
abbrev S1024x2944 : Shape := ⟨2, ![1024, 2944]⟩
abbrev S_ : Shape := ⟨0, ![]⟩
abbrev S64x1 : Shape := ⟨2, ![64, 1]⟩
abbrev S1024x3200 : Shape := ⟨2, ![1024, 3200]⟩
abbrev S16 : Shape := ⟨1, ![16]⟩
abbrev S128 : Shape := ⟨1, ![128]⟩
abbrev S128x1 : Shape := ⟨2, ![128, 1]⟩
abbrev S1x16 : Shape := ⟨2, ![1, 16]⟩
abbrev S128x16 : Shape := ⟨2, ![128, 16]⟩
abbrev S64x16 : Shape := ⟨2, ![64, 16]⟩
abbrev S128x64x16 : Shape := ⟨3, ![128, 64, 16]⟩
abbrev S8192x16 : Shape := ⟨2, ![8192, 16]⟩
abbrev S1x64x1x16 : Shape := ⟨4, ![1, 64, 1, 16]⟩
abbrev S128x64x1x16 : Shape := ⟨4, ![128, 64, 1, 16]⟩
abbrev S8192x64 : Shape := ⟨2, ![8192, 64]⟩
abbrev S256x64 : Shape := ⟨2, ![256, 64]⟩
abbrev S8448x64 : Shape := ⟨2, ![8448, 64]⟩
abbrev S8448x128 : Shape := ⟨2, ![8448, 128]⟩
abbrev S128x1024 : Shape := ⟨2, ![128, 1024]⟩
abbrev S128x4x256 : Shape := ⟨3, ![128, 4, 256]⟩
abbrev S128x4x128 : Shape := ⟨3, ![128, 4, 128]⟩
abbrev S128x512 : Shape := ⟨2, ![128, 512]⟩
abbrev S4x128x128 : Shape := ⟨3, ![4, 128, 128]⟩
abbrev S256x768 : Shape := ⟨2, ![256, 768]⟩
abbrev S256x4x192 : Shape := ⟨3, ![256, 4, 192]⟩
abbrev S256x4x64 : Shape := ⟨3, ![256, 4, 64]⟩
abbrev S256x4x256 : Shape := ⟨3, ![256, 4, 256]⟩
abbrev S256x1024 : Shape := ⟨2, ![256, 1024]⟩
abbrev S256x4x128 : Shape := ⟨3, ![256, 4, 128]⟩
abbrev S256x512 : Shape := ⟨2, ![256, 512]⟩
abbrev S1x1x1024 : Shape := ⟨3, ![1, 1, 1024]⟩
abbrev S1024 : Shape := ⟨1, ![1024]⟩
abbrev S1x1024 : Shape := ⟨2, ![1, 1024]⟩
abbrev S256 : Shape := ⟨1, ![256]⟩
abbrev S2x8448x2560 : Shape := ⟨3, ![2, 8448, 2560]⟩
abbrev S2x4x8448x256 : Shape := ⟨4, ![2, 4, 8448, 256]⟩
abbrev S2x4x136x8448 : Shape := ⟨4, ![2, 4, 136, 8448]⟩
abbrev S2x4x8192x256 : Shape := ⟨4, ![2, 4, 8192, 256]⟩
abbrev S2x1x1x1x1024 : Shape := ⟨5, ![2, 1, 1, 1, 1024]⟩
abbrev S256x128 : Shape := ⟨2, ![256, 128]⟩
abbrev S2x256x2560 : Shape := ⟨3, ![2, 256, 2560]⟩
abbrev S2x4x256x256 : Shape := ⟨4, ![2, 4, 256, 256]⟩
abbrev S2x4x136x256 : Shape := ⟨4, ![2, 4, 136, 256]⟩
abbrev S1x256x1024 : Shape := ⟨3, ![1, 256, 1024]⟩
abbrev S256x1 : Shape := ⟨2, ![256, 1]⟩
abbrev S1x1x1x1x1024 : Shape := ⟨5, ![1, 1, 1, 1, 1024]⟩
abbrev S512x1024 : Shape := ⟨2, ![512, 1024]⟩
abbrev S1024x640 : Shape := ⟨2, ![1024, 640]⟩
abbrev S512x640 : Shape := ⟨2, ![512, 640]⟩
abbrev S1024x2560 : Shape := ⟨2, ![1024, 2560]⟩
abbrev S512x2560 : Shape := ⟨2, ![512, 2560]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S8x256 : Shape := ⟨2, ![8, 256]⟩
abbrev S1x128x128 : Shape := ⟨3, ![1, 128, 128]⟩
abbrev S128x128 : Shape := ⟨2, ![128, 128]⟩
abbrev S256x256 : Shape := ⟨2, ![256, 256]⟩
abbrev S1x1x256x256 : Shape := ⟨4, ![1, 1, 256, 256]⟩
abbrev S128x256 : Shape := ⟨2, ![128, 256]⟩
abbrev S136x256 : Shape := ⟨2, ![136, 256]⟩
abbrev S1x1x136x256 : Shape := ⟨4, ![1, 1, 136, 256]⟩
abbrev S256x2560 : Shape := ⟨2, ![256, 2560]⟩
abbrev S1x256x2560 : Shape := ⟨3, ![1, 256, 2560]⟩

abbrev nBuf : Space → Nat
  | .hbm => 126
  | .vmem => 27
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x4x1024, .f32⟩
  | .hbm, ⟨3, _⟩ => ⟨S2x8x6144, .f32⟩
  | .hbm, ⟨4, _⟩ => ⟨S1x1024x3008, .f32⟩
  | .hbm, ⟨5, _⟩ => ⟨S1x256, .f32⟩
  | .hbm, ⟨6, _⟩ => ⟨S1x256x768, .f32⟩
  | .hbm, ⟨7, _⟩ => ⟨S1x128, .f32⟩
  | .hbm, ⟨8, _⟩ => ⟨S1x128x1024, .f32⟩
  | .hbm, ⟨9, _⟩ => ⟨S64, .i32⟩
  | .hbm, ⟨10, _⟩ => ⟨S64, .i1⟩
  | .hbm, ⟨11, _⟩ => ⟨S64, .i1⟩
  | .hbm, ⟨12, _⟩ => ⟨S2x8x6x1024, .f32⟩
  | .hbm, ⟨13, _⟩ => ⟨S1x2x6x1024, .f32⟩
  | .hbm, ⟨14, _⟩ => ⟨S2x6x1024, .f32⟩
  | .hbm, ⟨15, _⟩ => ⟨S1x1x6x1024, .f32⟩
  | .hbm, ⟨16, _⟩ => ⟨S6x1024, .f32⟩
  | .hbm, ⟨17, _⟩ => ⟨S1x6x1024, .f32⟩
  | .hbm, ⟨18, _⟩ => ⟨S2x6x1024, .f32⟩
  | .hbm, ⟨19, _⟩ => ⟨S2x1x6x1024, .f32⟩
  | .hbm, ⟨20, _⟩ => ⟨S2x1x6x1024, .f32⟩
  | .hbm, ⟨21, _⟩ => ⟨S2x2x6x1024, .f32⟩
  | .hbm, ⟨22, _⟩ => ⟨S2x2x6x1x1024, .f32⟩
  | .hbm, ⟨23, _⟩ => ⟨S1024x3008, .f32⟩
  | .hbm, ⟨24, _⟩ => ⟨S1024x64, .f32⟩
  | .hbm, ⟨25, _⟩ => ⟨S1024x2944, .f32⟩
  | .hbm, ⟨26, _⟩ => ⟨S_, .f32⟩
  | .hbm, ⟨27, _⟩ => ⟨S1024x64, .f32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S64x1, .i32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x3200, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S128, .f32⟩
  | .hbm, ⟨46, _⟩ => ⟨S128x1, .f32⟩
  | .hbm, ⟨47, _⟩ => ⟨S1x16, .f32⟩
  | .hbm, ⟨48, _⟩ => ⟨S128x16, .f32⟩
  | .hbm, ⟨49, _⟩ => ⟨S128x16, .f32⟩
  | .hbm, ⟨50, _⟩ => ⟨S128x16, .f32⟩
  | .hbm, ⟨51, _⟩ => ⟨S64, .f32⟩
  | .hbm, ⟨52, _⟩ => ⟨S64x1, .f32⟩
  | .hbm, ⟨53, _⟩ => ⟨S1x16, .f32⟩
  | .hbm, ⟨54, _⟩ => ⟨S64x16, .f32⟩
  | .hbm, ⟨55, _⟩ => ⟨S64x16, .f32⟩
  | .hbm, ⟨56, _⟩ => ⟨S64x16, .f32⟩
  | .hbm, ⟨57, _⟩ => ⟨S128x16, .f32⟩
  | .hbm, ⟨58, _⟩ => ⟨S128x64x16, .f32⟩
  | .hbm, ⟨59, _⟩ => ⟨S8192x16, .f32⟩
  | .hbm, ⟨60, _⟩ => ⟨S128x16, .f32⟩
  | .hbm, ⟨61, _⟩ => ⟨S128x64x16, .f32⟩
  | .hbm, ⟨62, _⟩ => ⟨S8192x16, .f32⟩
  | .hbm, ⟨63, _⟩ => ⟨S64x16, .f32⟩
  | .hbm, ⟨64, _⟩ => ⟨S1x64x1x16, .f32⟩
  | .hbm, ⟨65, _⟩ => ⟨S128x64x1x16, .f32⟩
  | .hbm, ⟨66, _⟩ => ⟨S8192x16, .f32⟩
  | .hbm, ⟨67, _⟩ => ⟨S64x16, .f32⟩
  | .hbm, ⟨68, _⟩ => ⟨S1x64x1x16, .f32⟩
  | .hbm, ⟨69, _⟩ => ⟨S128x64x1x16, .f32⟩
  | .hbm, ⟨70, _⟩ => ⟨S8192x16, .f32⟩
  | .hbm, ⟨71, _⟩ => ⟨S8192x64, .f32⟩
  | .hbm, ⟨72, _⟩ => ⟨S8192x16, .f32⟩
  | .hbm, ⟨73, _⟩ => ⟨S8192x16, .f32⟩
  | .hbm, ⟨74, _⟩ => ⟨S8192x64, .f32⟩
  | .hbm, ⟨75, _⟩ => ⟨S_, .f32⟩
  | .hbm, ⟨76, _⟩ => ⟨S256x64, .f32⟩
  | .hbm, ⟨77, _⟩ => ⟨S8448x64, .f32⟩
  | .hbm, ⟨78, _⟩ => ⟨S_, .f32⟩
  | .hbm, ⟨79, _⟩ => ⟨S256x64, .f32⟩
  | .hbm, ⟨80, _⟩ => ⟨S8448x64, .f32⟩
  | .hbm, ⟨81, _⟩ => ⟨S_, .i32⟩
  | .hbm, ⟨82, _⟩ => ⟨S_, .f32⟩
  | .hbm, ⟨83, _⟩ => ⟨S8448x128, .f32⟩
  | .hbm, ⟨84, _⟩ => ⟨S_, .i32⟩
  | .hbm, ⟨85, _⟩ => ⟨S_, .f32⟩
  | .hbm, ⟨86, _⟩ => ⟨S8448x128, .f32⟩
  | .hbm, ⟨87, _⟩ => ⟨S128x1024, .f32⟩
  | .hbm, ⟨88, _⟩ => ⟨S128x4x256, .f32⟩
  | .hbm, ⟨89, _⟩ => ⟨S128x4x128, .f32⟩
  | .hbm, ⟨90, _⟩ => ⟨S128x512, .f32⟩
  | .hbm, ⟨91, _⟩ => ⟨S128x4x128, .f32⟩
  | .hbm, ⟨92, _⟩ => ⟨S4x128x128, .f32⟩
  | .hbm, ⟨93, _⟩ => ⟨S256x768, .f32⟩
  | .hbm, ⟨94, _⟩ => ⟨S256x4x192, .f32⟩
  | .hbm, ⟨95, _⟩ => ⟨S_, .f32⟩
  | .hbm, ⟨96, _⟩ => ⟨S256x4x64, .f32⟩
  | .hbm, ⟨97, _⟩ => ⟨S256x4x256, .f32⟩
  | .hbm, ⟨98, _⟩ => ⟨S256x1024, .f32⟩
  | .hbm, ⟨99, _⟩ => ⟨S256x4x64, .f32⟩
  | .hbm, ⟨100, _⟩ => ⟨S_, .i32⟩
  | .hbm, ⟨101, _⟩ => ⟨S64, .i32⟩
  | .hbm, ⟨102, _⟩ => ⟨S64, .i32⟩
  | .hbm, ⟨103, _⟩ => ⟨S64, .i32⟩
  | .hbm, ⟨104, _⟩ => ⟨S64x1, .i32⟩
  | .hbm, ⟨105, _⟩ => ⟨S256x4x64, .f32⟩
  | .hbm, ⟨106, _⟩ => ⟨S_, .f32⟩
  | .hbm, ⟨107, _⟩ => ⟨S256x4x64, .f32⟩
  | .hbm, ⟨108, _⟩ => ⟨S256x4x128, .f32⟩
  | .hbm, ⟨109, _⟩ => ⟨S256x512, .f32⟩
  | .hbm, ⟨110, _⟩ => ⟨S1x1x1024, .f32⟩
  | .hbm, ⟨111, _⟩ => ⟨S1024, .f32⟩
  | .hbm, ⟨112, _⟩ => ⟨S1x1024, .f32⟩
  | .hbm, ⟨113, _⟩ => ⟨S1024x3200, .bf16⟩
  | .hbm, ⟨114, _⟩ => ⟨S128, .f32⟩
  | .hbm, ⟨115, _⟩ => ⟨S1x128, .f32⟩
  | .hbm, ⟨116, _⟩ => ⟨S256, .f32⟩
  | .hbm, ⟨117, _⟩ => ⟨S1x256, .f32⟩
  | .hbm, ⟨118, _⟩ => ⟨S128x512, .bf16⟩
  | .hbm, ⟨119, _⟩ => ⟨S4x128x128, .bf16⟩
  | .hbm, ⟨120, _⟩ => ⟨S256x1024, .bf16⟩
  | .hbm, ⟨121, _⟩ => ⟨S256x512, .bf16⟩
  | .hbm, ⟨122, _⟩ => ⟨S2x8448x2560, .bf16⟩
  | .hbm, ⟨123, _⟩ => ⟨S2x4x8448x256, .bf16⟩
  | .hbm, ⟨124, _⟩ => ⟨S2x4x136x8448, .bf16⟩
  | .hbm, ⟨125, _⟩ => ⟨S2x4x8192x256, .bf16⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S1x1024, .f32⟩
  | .local _ .vmem, ⟨4, _⟩ => ⟨S2x1x1x1x1024, .f32⟩
  | .local _ .vmem, ⟨5, _⟩ => ⟨S2x1x1x1x1024, .f32⟩
  | .local _ .vmem, ⟨6, _⟩ => ⟨S2x1x1x1x1024, .f32⟩
  | .local _ .vmem, ⟨7, _⟩ => ⟨S2x1x1x1x1024, .f32⟩
  | .local _ .vmem, ⟨8, _⟩ => ⟨S1024x3200, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S1x256, .f32⟩
  | .local _ .vmem, ⟨15, _⟩ => ⟨S128x512, .bf16⟩
  | .local _ .vmem, ⟨16, _⟩ => ⟨S4x128x128, .bf16⟩
  | .local _ .vmem, ⟨17, _⟩ => ⟨S256x1024, .bf16⟩
  | .local _ .vmem, ⟨18, _⟩ => ⟨S256x512, .bf16⟩
  | .local _ .vmem, ⟨19, _⟩ => ⟨S2x256x2560, .bf16⟩
  | .local _ .vmem, ⟨20, _⟩ => ⟨S2x256x2560, .bf16⟩
  | .local _ .vmem, ⟨21, _⟩ => ⟨S2x4x256x256, .bf16⟩
  | .local _ .vmem, ⟨22, _⟩ => ⟨S2x4x256x256, .bf16⟩
  | .local _ .vmem, ⟨23, _⟩ => ⟨S2x4x136x256, .bf16⟩
  | .local _ .vmem, ⟨24, _⟩ => ⟨S2x4x136x256, .bf16⟩
  | .local _ .vmem, ⟨25, _⟩ => ⟨S2x4x256x256, .bf16⟩
  | .local _ .vmem, ⟨26, _⟩ => ⟨S2x4x256x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_c_8 : Ref sig .tc := ⟨.hbm, 81, rfl⟩
abbrev main_call0_v0 : Ref sig .tc := ⟨.hbm, 82, rfl⟩
abbrev main_v62 : Ref sig .tc := ⟨.hbm, 83, rfl⟩
abbrev main_c_9 : Ref sig .tc := ⟨.hbm, 84, rfl⟩
abbrev main_call1_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_11 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96_0 : Ref sig .tc := ⟨.hbm, 122, rfl⟩
abbrev main_v96_1 : Ref sig .tc := ⟨.hbm, 123, rfl⟩
abbrev main_v96_2 : Ref sig .tc := ⟨.hbm, 124, rfl⟩
abbrev main_v96_3 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_4 (i : grid0.Coords) : Fin 5 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c1_i32_0 : BitVec 32 := 1#32
  let c0_i32_1 : BitVec 32 := 0#32
  let c0_i32_2 : BitVec 32 := 0#32
  let c0_i32_3 : BitVec 32 := 0#32
  ![c0_i32.toNat, v1.toNat, c1_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_17 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x256x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x4x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x136x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x4x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S2x256x1024 : Shape := ⟨3, ![2, 256, 1024]⟩
abbrev S2x8192x1024 : Shape := ⟨3, ![2, 8192, 1024]⟩
abbrev S2x4x1024 : Shape := ⟨3, ![2, 4, 1024]⟩
abbrev S2x8x6144 : Shape := ⟨3, ![2, 8, 6144]⟩
abbrev S1x1024x3008 : Shape := ⟨3, ![1, 1024, 3008]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x2x6144 : Shape := ⟨3, ![1, 2, 6144]⟩
abbrev S2x6144 : Shape := ⟨2, ![2, 6144]⟩
abbrev S2x1x6144 : Shape := ⟨3, ![2, 1, 6144]⟩
abbrev S1x1x6144 : Shape := ⟨3, ![1, 1, 6144]⟩
abbrev S6144 : Shape := ⟨1, ![6144]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S2x8192 : Shape := ⟨2, ![2, 8192]⟩
abbrev S2x8192x1 : Shape := ⟨3, ![2, 8192, 1]⟩
abbrev S2x8448x1024 : Shape := ⟨3, ![2, 8448, 1024]⟩
abbrev S1024x3008 : Shape := ⟨2, ![1024, 3008]⟩
abbrev S2x8448x3008 : Shape := ⟨3, ![2, 8448, 3008]⟩
abbrev S2x8448x2560 : Shape := ⟨3, ![2, 8448, 2560]⟩

abbrev nBuf : Space → Nat
  | .hbm => 82
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x4x1024, .f32⟩
  | .hbm, ⟨3, _⟩ => ⟨S2x8x6144, .f32⟩
  | .hbm, ⟨4, _⟩ => ⟨S1x1024x3008, .f32⟩
  | .hbm, ⟨5, _⟩ => ⟨S1x256, .f32⟩
  | .hbm, ⟨6, _⟩ => ⟨S1x256x768, .f32⟩
  | .hbm, ⟨7, _⟩ => ⟨S1x128, .f32⟩
  | .hbm, ⟨8, _⟩ => ⟨S1x128x1024, .f32⟩
  | .hbm, ⟨9, _⟩ => ⟨S1x2x6144, .f32⟩
  | .hbm, ⟨10, _⟩ => ⟨S2x6144, .f32⟩
  | .hbm, ⟨11, _⟩ => ⟨S2x1x6144, .f32⟩
  | .hbm, ⟨12, _⟩ => ⟨S1x1x6144, .f32⟩
  | .hbm, ⟨13, _⟩ => ⟨S6144, .f32⟩
  | .hbm, ⟨14, _⟩ => ⟨S1x1x6144, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1024, .f32⟩
  | .hbm, ⟨29, _⟩ => ⟨S2x256x1024, .f32⟩
  | .hbm, ⟨30, _⟩ => ⟨S_, .f32⟩
  | .hbm, ⟨31, _⟩ => ⟨S2x256, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S_, .f32⟩
  | .hbm, ⟨37, _⟩ => ⟨S2x256x1, .f32⟩
  | .hbm, ⟨38, _⟩ => ⟨S2x256x1, .f32⟩
  | .hbm, ⟨39, _⟩ => ⟨S2x256x1, .f32⟩
  | .hbm, ⟨40, _⟩ => ⟨S2x256x1024, .f32⟩
  | .hbm, ⟨41, _⟩ => ⟨S2x256x1024, .f32⟩
  | .hbm, ⟨42, _⟩ => ⟨S1x1x1024, .f32⟩
  | .hbm, ⟨43, _⟩ => ⟨S2x256x1024, .f32⟩
  | .hbm, ⟨44, _⟩ => ⟨S2x256x1024, .f32⟩
  | .hbm, ⟨45, _⟩ => ⟨S_, .f32⟩
  | .hbm, ⟨46, _⟩ => ⟨S1x1x1024, .f32⟩
  | .hbm, ⟨47, _⟩ => ⟨S1x1x1024, .f32⟩
  | .hbm, ⟨48, _⟩ => ⟨S2x256x1024, .f32⟩
  | .hbm, ⟨49, _⟩ => ⟨S2x256x1024, .f32⟩
  | .hbm, ⟨50, _⟩ => ⟨S2x256x1024, .f32⟩
  | .hbm, ⟨51, _⟩ => ⟨S2x256x1024, .f32⟩
  | .hbm, ⟨52, _⟩ => ⟨S1x1x1024, .f32⟩
  | .hbm, ⟨53, _⟩ => ⟨S1024, .f32⟩
  | .hbm, ⟨54, _⟩ => ⟨S2x8192x1024, .f32⟩
  | .hbm, ⟨55, _⟩ => ⟨S_, .f32⟩
  | .hbm, ⟨56, _⟩ => ⟨S2x8192, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S2x8192x1, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x1x1024, .f32⟩
  | .hbm, ⟨72, _⟩ => ⟨S2x1x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S2x8448x1024, .f32⟩
  | .hbm, ⟨78, _⟩ => ⟨S1024x3008, .f32⟩
  | .hbm, ⟨79, _⟩ => ⟨S2x8448x3008, .f32⟩
  | .hbm, ⟨80, _⟩ => ⟨S2x8448x2560, .f32⟩
  | .hbm, ⟨81, _⟩ => ⟨S2x8448x2560, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Proof.Spec.lean ====
/- The rows of the layer's closing arithmetic, as plain functions on the extended reals: what one token's row goes
   through from the branch outputs to the end of the feed-forward block. Both programs are read down to these. -/
module

public import Idealize.ShloMosaic.Lib.Pointwise
public import Idealize.ShloMosaic.Lib.ValueIdx

set_option maxRecDepth 16384

@[expose] public section
noncomputable section

open Idealize.ShloMosaic

namespace Cert.Rows

/-- The number the mean over a row of 1024 divides by (the word of 1024). -/
def cWidth : EReal := Ideal.ofBits .f32 0x44800000#32
/-- The number the mean over a head of 128 divides by (the word of 128). -/
def cHead : EReal := Ideal.ofBits .f32 0x43000000#32
/-- The small constant under every root. -/
def cEps : EReal := Ideal.ofBits .f32 0x358637BD#32

/-- The factor of a root-mean-square norm over a row of 1024. -/
def rmsScale (v : Fin 1024 → EReal) : EReal :=
  Ideal.rsqrt (Ideal.div (∑ k, v k * v k) cWidth + cEps)

/-- The root-mean-square norm of a row, times its weights. -/
def rms (v g : Fin 1024 → EReal) (j : Fin 1024) : EReal := v j * rmsScale v * g j

/-- A gated residual: the row plus its gate times the update. -/
def resid (x ga p : Fin 1024 → EReal) (j : Fin 1024) : EReal := x j + ga j * p j

/-- The normed and modulated row that enters the feed-forward block. -/
def modulated (x g sc sh : Fin 1024 → EReal) (j : Fin 1024) : EReal := rms x g j * (1 + sc j) + sh j

/-- One hidden unit of the feed-forward block, after its rectifier. -/
def hiddenUnit (h : Fin 1024 → EReal) (w : Fin 1024 → EReal) : EReal := max (∑ j, h j * w j) 0

/-- The feed-forward block with squared rectified units. -/
def ffn (h : Fin 1024 → EReal) (w1 : Fin 1024 → Fin 4096 → EReal) (w2 : Fin 4096 → Fin 1024 → EReal)
    (j : Fin 1024) : EReal :=
  ∑ k : Fin 4096, hiddenUnit h (fun l => w1 l k) * hiddenUnit h (fun l => w1 l k) * w2 k j

/-- The layer's end for one row: the gated residual of the mixer's normed output, then the feed-forward block on
    the modulated norm of that, its own norm and its gated residual. -/
def layerEnd (x p ga sh sc gm g1 g2 g3 : Fin 1024 → EReal) (w1 : Fin 1024 → Fin 4096 → EReal)
    (w2 : Fin 4096 → Fin 1024 → EReal) (j : Fin 1024) : EReal :=
  resid (resid x ga (rms p g1)) gm
    (rms (ffn (modulated (resid x ga (rms p g1)) g2 sc sh) w1 w2) g3) j

/-- The output projection of two half rows laid side by side. -/
def project (a b : Fin 512 → EReal) (w : Fin 1024 → Fin 1024 → EReal) (j : Fin 1024) : EReal :=
  (∑ k : Fin 512, a k * w ⟨k, by omega⟩ j) + ∑ k : Fin 512, b k * w ⟨512 + k, by omega⟩ j

/-- The logistic function. -/
def sigm (x : EReal) : EReal := Ideal.div 1 (1 + Ideal.exp (-x))

/-- Lane `l` of the head of 128 that column `k` lies in. -/
def headLane (k : Fin 512) (l : Fin 128) : Fin 512 := ⟨(k : ℕ) / 128 * 128 + l, by omega⟩

/-- The mean square over the head of 128 that column `k` lies in, as a factor of a norm. -/
def headScale (y : Fin 512 → EReal) (k : Fin 512) : EReal :=
  Ideal.rsqrt (Ideal.div (∑ l, y (headLane k l) * y (headLane k l)) cHead + cEps)

/-- One direction-summed recurrence output, normed per head, weighted and gated. -/
def gated (y hn g : Fin 512 → EReal) (k : Fin 512) : EReal :=
  y k * headScale y k * hn k * (g k * sigm (g k))

/-- What the odd layer's closing call leaves at a batch, a token and a column, from its arrays: the two recurrence
    directions `o` and the gates `p` are read 256 tokens further on, past the context tokens; `w…` and `ng` are this
    layer's weights, `ada` its modulation vector. -/
def oddEnd (x : Fin 2 → Fin 8192 → Fin 1024 → EReal) (o : Fin 2 → Fin 2 → Fin 8448 → Fin 512 → EReal)
    (p : Fin 2 → Fin 8448 → Fin 2560 → EReal) (a : Fin 2 → Fin 8192 → Fin 512 → EReal) (hn : Fin 512 → EReal)
    (w0 : Fin 1024 → Fin 1024 → EReal) (w1 : Fin 1024 → Fin 4096 → EReal) (w2 : Fin 4096 → Fin 1024 → EReal)
    (ng : Fin 4 → Fin 1024 → EReal) (ada : Fin 2 → Fin 6144 → EReal) (b : Fin 2) (n : Fin 8192) (j : Fin 1024) :
    EReal :=
  layerEnd (x b n)
    (project
      (gated (fun k => o 0 b ⟨256 + n, by omega⟩ k + o 1 b ⟨256 + n, by omega⟩ k) hn
        (fun k => p b ⟨256 + n, by omega⟩ ⟨2048 + k, by omega⟩))
      (a b n) w0)
    (fun l => ada b ⟨2048 + l, by omega⟩) (fun l => ada b ⟨3072 + l, by omega⟩)
    (fun l => ada b ⟨4096 + l, by omega⟩) (fun l => ada b ⟨5120 + l, by omega⟩)
    (ng 1) (ng 2) (ng 3) w1 w2 j

/-- The layer's end depends on its rows and weights only through their entries. -/
theorem layerEnd_congr {X X' GA GA' SH SH' SC SC' GM GM' G1 G1' G2 G2' G3 G3' : Fin 1024 → EReal}
    {A A' B B' : Fin 512 → EReal} {OW OW' : Fin 1024 → Fin 1024 → EReal} {W1 W1' : Fin 1024 → Fin 4096 → EReal}
    {W2 W2' : Fin 4096 → Fin 1024 → EReal} {j j' : Fin 1024}
    (hx : ∀ j, X j = X' j) (ha : ∀ k, A k = A' k) (hb : ∀ k, B k = B' k) (how : ∀ l j, OW l j = OW' l j)
    (hga : ∀ j, GA j = GA' j) (hsh : ∀ j, SH j = SH' j) (hsc : ∀ j, SC j = SC' j) (hgm : ∀ j, GM j = GM' j)
    (h1 : ∀ j, G1 j = G1' j) (h2 : ∀ j, G2 j = G2' j) (h3 : ∀ j, G3 j = G3' j)
    (hw1 : ∀ l k, W1 l k = W1' l k) (hw2 : ∀ k j, W2 k j = W2' k j) (hj : j = j') :
    layerEnd X (project A B OW) GA SH SC GM G1 G2 G3 W1 W2 j
      = layerEnd X' (project A' B' OW') GA' SH' SC' GM' G1' G2' G3' W1' W2' j' := by
  obtain rfl := funext hx; obtain rfl := funext ha; obtain rfl := funext hb
  obtain rfl := funext fun l => funext (how l)
  obtain rfl := funext hga; obtain rfl := funext hsh; obtain rfl := funext hsc; obtain rfl := funext hgm
  obtain rfl := funext h1; obtain rfl := funext h2; obtain rfl := funext h3
  obtain rfl := funext fun l => funext (hw1 l)
  obtain rfl := funext fun l => funext (hw2 l)
  rw [hj]

/-- The gated row depends on its inputs only through their entries. -/
theorem gated_congr {Y Y' HN HN' Q Q' : Fin 512 → EReal} (hy : ∀ k, Y k = Y' k) (hn : ∀ k, HN k = HN' k)
    (hq : ∀ k, Q k = Q' k) (k : Fin 512) : gated Y HN Q k = gated Y' HN' Q' k := by
  obtain rfl := funext hy; obtain rfl := funext hn; obtain rfl := funext hq; rfl

/-- A sum over the 4096 hidden units, in the four chunks the kernels take them in. -/
theorem sum_chunks (f : Fin 4096 → EReal) :
    ∑ k, f k = (∑ l : Fin 1024, f ⟨l, by omega⟩) + (∑ l : Fin 1024, f ⟨1024 + l, by omega⟩)
      + (∑ l : Fin 1024, f ⟨2048 + l, by omega⟩) + ∑ l : Fin 1024, f ⟨3072 + l, by omega⟩ := by
  rw [Fin.sum_univ_tiles 4 1024 rfl f, Fin.sum_univ_four]
  refine congrArg₂ (· + ·) (congrArg₂ (· + ·) (congrArg₂ (· + ·) ?_ ?_) ?_) ?_ <;>
    exact Finset.sum_congr rfl fun l _ => congrArg f (Fin.ext (by simp))

/-- The word `0x43000000` is 128. -/
theorem cHead_eq : cHead = ((128 : ℝ) : EReal) := by
  simp [cHead, Ideal.ofBits, Ideal.ieee, -EReal.coe_mul]; norm_num

/-- The word `0x3C000000` is 1/128. -/
theorem inv128_eq : Ideal.ofBits .f32 0x3C000000#32 = ((1 / 128 : ℝ) : EReal) := by
  simp [Ideal.ofBits, Ideal.ieee, -EReal.coe_mul]; norm_num

/-- Multiplying by the word of 1/128 is dividing by the word of 128. -/
theorem mul_inv_head (x : EReal) : x * Ideal.ofBits .f32 0x3C000000#32 = Ideal.div x cHead := by
  rw [cHead_eq, inv128_eq, Ideal.div_coe (by norm_num)]

end Cert.Rows
-- ==== Proof.KernelRows.lean ====
/- The odd layer's kernel, payload by payload: what each value the body computes is at a row and a column. -/
module

public import proofs.«01_k».proof.Proof.Spec
public import proofs.«01_k».proof.Proof.Gen.KernelIdeal.Skeleton
public import Idealize.ShloMosaic.Lib.Pipeline.ValueKit

set_option maxRecDepth 16384

@[expose] public section
noncomputable section

open Idealize.ShloMosaic Idealize.ShloMosaic.TcCoe Idealize.SL.Sem
open Cert.KernelIdeal Cert.KernelIdeal.Gen Cert.Rows

namespace Cert.KernelIdeal.OddRows

/-- The gate block, its unit axis dropped. -/
theorem pay2_at (v : FVec Ideal S1x512x512 .bf16) (r k : Fin 512) :
    k0_pay2 (F := Ideal) v (ix2 r k) = v (ix3 0 r k) := by
  pointwise! [k0_pay2]

/-- The head-norm weights spread over the rows. -/
theorem pay4_at (v : FVec Ideal S1x512 .f32) (r k : Fin 512) :
    k0_pay4 (F := Ideal) v (ix2 r k) = v (ix2 0 k) := by
  pointwise! [k0_pay4]

/-- The residual block, its unit axis dropped. -/
theorem pay5_at (v : FVec Ideal S1x512x1024 .f32) (r : Fin 512) (k : Fin 1024) :
    k0_pay5 (F := Ideal) v (ix2 r k) = v (ix3 0 r k) := by
  pointwise! [k0_pay5]

/-- The first gate spread over the rows. -/
theorem pay7_at (v : FVec Ideal S1x1x1x1x1024 .f32) (r : Fin 512) (k : Fin 1024) :
    k0_pay7 (F := Ideal) v (ix2 r k) = v (ix5 0 0 0 0 k) := by
  pointwise! [k0_pay7]

/-- The gated residual after the mixer. -/
theorem pay8_at (x p ga : FVec Ideal S512x1024 .f32) (r : Fin 512) (k : Fin 1024) :
    k0_pay8 (F := Ideal) x p ga (ix2 r k)
      = resid (fun j => x (ix2 r j)) (fun j => ga (ix2 r j)) (fun j => p (ix2 r j)) k := by
  pointwise! [k0_pay8, resid]

/-- The normed and modulated row. -/
theorem pay9_at (x p ga : FVec Ideal S512x1024 .f32) (g : FVec Ideal S1x1x1024 .f32)
    (sc sh : FVec Ideal S1x1x1x1x1024 .f32) (r : Fin 512) (k : Fin 1024) :
    k0_pay9 (F := Ideal) x p ga g sc sh (ix2 r k)
      = modulated (fun j => k0_pay8 (F := Ideal) x p ga (ix2 r j)) (fun j => g (ix3 0 0 j))
          (fun j => sc (ix5 0 0 0 0 j)) (fun j => sh (ix5 0 0 0 0 j)) k := by
  pointwise! [k0_pay9, modulated, rms, rmsScale, cWidth, cEps]

/-- The first chunk of hidden units. -/
theorem pay10_at (x p ga : FVec Ideal S512x1024 .f32) (g : FVec Ideal S1x1x1024 .f32)
    (sc sh : FVec Ideal S1x1x1x1x1024 .f32) (w : FVec Ideal S1x1024x1024 .bf16) (r : Fin 512) (k : Fin 1024) :
    k0_pay10 (F := Ideal) x p ga g sc sh w (ix2 r k)
      = hiddenUnit (fun j => k0_pay9 (F := Ideal) x p ga g sc sh (ix2 r j)) (fun j => w (ix3 0 j k)) := by
  pointwise! [k0_pay10, hiddenUnit]

/-- A chunk of the first weights, its unit axis dropped. -/
theorem pay11_at (w : FVec Ideal S1x1024x1024 .bf16) (j k : Fin 1024) :
    k0_pay11 (F := Ideal) w (ix2 j k) = w (ix3 0 j k) := by
  pointwise! [k0_pay11]

/-- A chunk of the second weights, its unit axis dropped. -/
theorem pay14_at (w : FVec Ideal S1x1024x1024 .bf16) (j k : Fin 1024) :
    k0_pay14 (F := Ideal) w (ix2 j k) = w (ix3 0 j k) := by
  pointwise! [k0_pay14]

/-- The last chunk of squared hidden units. -/
theorem pay13_at (h : FVec Ideal S512x1024 .bf16) (w : FVec Ideal S1x1024x1024 .bf16) (r : Fin 512)
    (k : Fin 1024) :
    k0_pay13 (F := Ideal) h w (ix2 r k)
      = hiddenUnit (fun j => h (ix2 r j)) (fun j => w (ix3 0 j k))
          * hiddenUnit (fun j => h (ix2 r j)) (fun j => w (ix3 0 j k)) := by
  pointwise! [k0_pay13, hiddenUnit]

/-- The first three chunks of the feed-forward block, added. -/
theorem pay12_at (h : FVec Ideal S512x1024 .bf16) (u0 : FVec Ideal S512x1024 .f32)
    (w1 : FVec Ideal S1024x1024 .bf16) (w2 d0 d1 d2 : FVec Ideal S1x1024x1024 .bf16) (r : Fin 512)
    (k : Fin 1024) :
    k0_pay12 (F := Ideal) h u0 w1 (constant S512x1024 .f32 0x00000000#32) w2 d0 d1 d2 (ix2 r k)
      = (∑ l : Fin 1024, u0 (ix2 r l) * u0 (ix2 r l) * d0 (ix3 0 l k))
        + (∑ l : Fin 1024, hiddenUnit (fun j => h (ix2 r j)) (fun j => w1 (ix2 j l))
            * hiddenUnit (fun j => h (ix2 r j)) (fun j => w1 (ix2 j l)) * d1 (ix3 0 l k))
        + (∑ l : Fin 1024, hiddenUnit (fun j => h (ix2 r j)) (fun j => w2 (ix3 0 j l))
            * hiddenUnit (fun j => h (ix2 r j)) (fun j => w2 (ix3 0 j l)) * d2 (ix3 0 l k)) := by
  pointwise! [k0_pay12, hiddenUnit]

/-- The last chunk, the norm of the whole sum and the gated residual. -/
theorem pay1_at (x1 a : FVec Ideal S512x1024 .f32) (u : FVec Ideal S512x1024 .bf16)
    (w : FVec Ideal S1024x1024 .bf16) (gm : FVec Ideal S1x1x1x1x1024 .f32) (g : FVec Ideal S1x1x1024 .f32)
    (b : Fin 1) (r : Fin 512) (k : Fin 1024) :
    k0_pay1 (F := Ideal) x1 a u w gm g (ix3 b r k)
      = resid (fun j => x1 (ix2 r j)) (fun j => gm (ix5 0 0 0 0 j))
          (rms (fun j => a (ix2 r j) + ∑ l : Fin 1024, u (ix2 r l) * w (ix2 l j)) (fun j => g (ix3 0 0 j))) k := by
  pointwise! [k0_pay1, resid, rms, rmsScale, cWidth, cEps]

/-- The sum of the two directions, times the factor of the norm of its head. -/
theorem pay3_at (o0 o1 : FVec Ideal S1x1x512x512 .f32) (r k : Fin 512) :
    k0_pay3 (F := Ideal) o0 o1 (ix2 r k)
      = (o0 (ix4 0 0 r k) + o1 (ix4 0 0 r k))
          * headScale (fun j => o0 (ix4 0 0 r j) + o1 (ix4 0 0 r j)) k := by
  pointwise [k0_pay3]
  refine Ideal.mul_congr rfl ?_
  rw [mul_inv_head]
  refine congrArg (fun z => Ideal.rsqrt (Ideal.div z cHead + cEps)) ?_
  have hk := k.isLt
  by_cases h0 : (k : ℕ) < 128
  · rw [dif_pos h0]
    refine Finset.sum_congr rfl fun l _ => ?_
    rw [show headLane k l = ⟨(l : ℕ), by omega⟩ from Fin.ext (by simp only [headLane]; omega)]
  by_cases h1 : (k : ℕ) - 128 < 128
  · rw [dif_neg h0, dif_pos h1]
    refine Finset.sum_congr rfl fun l _ => ?_
    rw [show headLane k l = ⟨128 + (l : ℕ), by omega⟩ from Fin.ext (by simp only [headLane]; omega)]
  by_cases h2 : (k : ℕ) - 128 - 128 < 128
  · rw [dif_neg h0, dif_neg h1, dif_pos h2]
    refine Finset.sum_congr rfl fun l _ => ?_
    rw [show headLane k l = ⟨256 + (l : ℕ), by omega⟩ from Fin.ext (by simp only [headLane]; omega)]
  · rw [dif_neg h0, dif_neg h1, dif_neg h2]
    refine Finset.sum_congr rfl fun l _ => ?_
    rw [show headLane k l = ⟨384 + (l : ℕ), by omega⟩ from Fin.ext (by simp only [headLane]; omega)]

/-- The gate, the projection of the two half rows and the norm of the projection. -/
theorem pay6_at (g y hn : FVec Ideal S512x512 .f32) (at' : FVec Ideal S1x512x512 .f32)
    (w : FVec Ideal S1x1024x1024 .bf16) (g1 : FVec Ideal S1x1x1024 .f32) (r : Fin 512) (k : Fin 1024) :
    k0_pay6 (F := Ideal) g y hn at' w g1 (ix2 r k)
      = rms (project (fun l => y (ix2 r l) * hn (ix2 r l) * (g (ix2 r l) * sigm (g (ix2 r l))))
          (fun l => at' (ix3 0 r l)) (fun l j => w (ix3 0 l j))) (fun j => g1 (ix3 0 0 j)) k := by
  pointwise [k0_pay6, rms, rmsScale, cWidth, cEps, project]
  simp only [zero_sub]
  rfl

end Cert.KernelIdeal.OddRows
-- ==== Proof.Blocks.lean ====
/- The odd layer's kernel: the blocks its body reads at a grid point, as entries of the argument arrays. -/
module

public import proofs.«01_k».proof.Proof.Spec
public import proofs.«01_k».proof.Proof.Gen.KernelIdeal.Frame
public import Idealize.ShloMosaic.Lib.Pipeline.ValueKit
public import Idealize.ShloMosaic.Lib.StableHlo.ReadAt

set_option maxRecDepth 16384

@[expose] public section
noncomputable section

open Idealize.ShloMosaic Idealize.ShloMosaic.TcCoe Idealize.SL.Sem
open Idealize.ShloMosaic.Pipeline (Dat)
open Cert.KernelIdeal Cert.KernelIdeal.Gen Cert.Rows

namespace Cert.KernelIdeal.OddValue

variable (m : (ℓ : Loc nD τ sig) → Buf (Elt Ideal) ℓ)

/-- The argument arrays. -/
abbrev a0 (c : Dev nD) : FVec Ideal S2x8192x1024 .f32 := m ((c : Thread nD τ).loc main_arg0)
abbrev a1 (c : Dev nD) : FVec Ideal S2x2x8448x512 .f32 := m ((c : Thread nD τ).loc main_arg1)
abbrev a2 (c : Dev nD) : FVec Ideal S2x8448x2560 .bf16 := m ((c : Thread nD τ).loc main_arg2)
abbrev a3 (c : Dev nD) : FVec Ideal S2x8192x512 .f32 := m ((c : Thread nD τ).loc main_arg3)
abbrev a4 (c : Dev nD) : FVec Ideal S1x512 .f32 := m ((c : Thread nD τ).loc main_arg4)
abbrev a5 (c : Dev nD) : FVec Ideal S2x1024x1024 .f32 := m ((c : Thread nD τ).loc main_arg5)
abbrev a6 (c : Dev nD) : FVec Ideal S2x1024x4096 .f32 := m ((c : Thread nD τ).loc main_arg6)
abbrev a7 (c : Dev nD) : FVec Ideal S2x4096x1024 .f32 := m ((c : Thread nD τ).loc main_arg7)
abbrev a8 (c : Dev nD) : FVec Ideal S2x4x1024 .f32 := m ((c : Thread nD τ).loc main_arg8)
abbrev a9 (c : Dev nD) : FVec Ideal S2x8x6144 .f32 := m ((c : Thread nD τ).loc main_arg9)

/-- Where every window's block lies at a grid point: block indices, and element offsets for the two windows whose
    maps give those. -/
theorem idx : ∀ t : Fin cfg0.N,
    win0_0.index t = ![t.val / 16, t.val % 16, 0]
    ∧ win0_1.index t = ![0, t.val / 16, 256 + 512 * (t.val % 16), 0]
    ∧ win0_2.index t = ![t.val / 16, 256 + 512 * (t.val % 16), 2048]
    ∧ win0_3.index t = ![t.val / 16, t.val % 16, 0]
    ∧ win0_4.index t = ![0, 0]
    ∧ win0_5.index t = ![1, 0, 0] ∧ win0_6.index t = ![1, 0, 0] ∧ win0_7.index t = ![1, 0, 0]
    ∧ win0_8.index t = ![1, 0, 0]
    ∧ win0_9.index t = ![t.val / 16, 1, 2, 0, 0] ∧ win0_10.index t = ![t.val / 16, 1, 3, 0, 0]
    ∧ win0_11.index t = ![t.val / 16, 1, 4, 0, 0] ∧ win0_12.index t = ![t.val / 16, 1, 5, 0, 0]
    ∧ win0_13.index t = ![t.val / 16, t.val % 16, 0] ∧ t.val / 16 < 2 :=
  (by decide +kernel : ∀ t : Fin grid0.N, _)

/-- The batch coordinate of a grid point. -/
theorem lt_two (t : Fin cfg0.N) : t.val / 16 < 2 := (idx t).2.2.2.2.2.2.2.2.2.2.2.2.2.2

/-- An index of the block of the recurrence outputs, placed: its offset plus the index. -/
theorem emb1 (t : Fin cfg0.N) (y : S2x1x512x512.Idx) (a : Fin 4) :
    ((((View.whole main_arg1).slice (win0_1.rect t)).emb y a : Fin _) : ℕ) = win0_1.index t a + (y a : ℕ) :=
  win0_1.rect_emb_val_off t y a

/-- An index of the block of the gates, placed: its offset plus the index. -/
theorem emb2 (t : Fin cfg0.N) (y : S1x512x512.Idx) (a : Fin 3) :
    ((((View.whole main_arg2).slice (win0_2.rect t)).emb y a : Fin _) : ℕ) = win0_2.index t a + (y a : ℕ) :=
  win0_2.rect_emb_val_off t y a

/-- The block of the recurrence outputs, both directions: 256 tokens further on. -/
theorem blk1 (c : Dev nD) (t : Fin cfg0.N) (d : Fin 2) (r k : Fin 512) :
    (iblk m c 1 t : FVec Ideal S2x1x512x512 .f32) (ix4 d 0 r k)
      = a1 m c (ix4 d ⟨t.val / 16, lt_two t⟩ ⟨256 + (512 * (t.val % 16) + r), by omega⟩ k) := by
  have hidx := (idx t).2.1
  blk_ext [iblk, V, hidx]
  all_goals (rw [emb1, hidx]; simp)
  omega

/-- The block of the gates: 256 tokens further on, columns from 2048. -/
theorem blk2 (c : Dev nD) (t : Fin cfg0.N) (r k : Fin 512) :
    (iblk m c 2 t : FVec Ideal S1x512x512 .bf16) (ix3 0 r k)
      = a2 m c (ix3 ⟨t.val / 16, lt_two t⟩ ⟨256 + (512 * (t.val % 16) + r), by omega⟩ ⟨2048 + k, by omega⟩) := by
  have hidx := (idx t).2.2.1
  blk_ext [iblk, V, hidx]
  all_goals (rw [emb2, hidx]; simp)
  omega

/-- The stacked modulations, segment 1, as entries of the modulation table. -/
theorem mods_at (c : Dev nD) (b : Fin 2) (k : Fin 6) (j : Fin 1024) :
    (V m c main_v13 : FVec Ideal S2x2x6x1x1024 .f32) (ix5 b 1 k 0 j)
      = a9 m c (ix3 1 ⟨b, by omega⟩ ⟨k * 1024 + j, by omega⟩) := by
  entry_read
  clean_types
  pointwise

/-- The head-norm weights after their two reshapes. -/
theorem norm_at (c : Dev nD) (k : Fin 512) :
    (V m c main_v15 : FVec Ideal S1x512 .f32) (ix2 0 k) = a4 m c (ix2 0 k) := by
  entry_read
  clean_types
  pointwise

/-- The cast output projection is the argument, at this instance. -/
theorem w0_at (c : Dev nD) (l j : Fin 1024) :
    (V m c main_v1 : FVec Ideal S2x1024x1024 .bf16) (ix3 1 l j) = a5 m c (ix3 1 l j) := by
  entry_read
  clean_types
  pointwise

/-- The cast first feed-forward weights are the argument. -/
theorem w1_at (c : Dev nD) (l : Fin 1024) (j : Fin 4096) :
    (V m c main_v2 : FVec Ideal S2x1024x4096 .bf16) (ix3 1 l j) = a6 m c (ix3 1 l j) := by
  entry_read
  clean_types
  pointwise

/-- The cast second feed-forward weights are the argument. -/
theorem w2_at (c : Dev nD) (l : Fin 4096) (j : Fin 1024) :
    (V m c main_v3 : FVec Ideal S2x4096x1024 .bf16) (ix3 1 l j) = a7 m c (ix3 1 l j) := by
  entry_read
  clean_types
  pointwise

/-- The block of `a0`: batch and row tile of the grid point. -/
theorem blk0 (c : Dev nD) (t : Fin cfg0.N) (r : Fin 512) (k : Fin 1024) :
    (iblk m c 0 t : FVec Ideal S1x512x1024 .f32) (ix3 0 r k)
      = a0 m c (ix3 ⟨t.val / 16, lt_two t⟩ ⟨512 * (t.val % 16) + r, by omega⟩ k) := by
  have hidx := (idx t).1
  blk_ext [iblk, V, hidx]

/-- The block of `a3`: batch and row tile of the grid point. -/
theorem blk3 (c : Dev nD) (t : Fin cfg0.N) (r : Fin 512) (k : Fin 512) :
    (iblk m c 3 t : FVec Ideal S1x512x512 .f32) (ix3 0 r k)
      = a3 m c (ix3 ⟨t.val / 16, lt_two t⟩ ⟨512 * (t.val % 16) + r, by omega⟩ k) := by
  have hidx := (idx t).2.2.2.1
  blk_ext [iblk, V, hidx]

/-- The block of the head-norm weights. -/
theorem blk4 (c : Dev nD) (t : Fin cfg0.N) (k : Fin 512) :
    (iblk m c 4 t : FVec Ideal S1x512 .f32) (ix2 0 k) = a4 m c (ix2 0 k) := by
  have hidx := (idx t).2.2.2.2.1
  refine Eq.trans ?_ (norm_at m c k)
  blk_ext [iblk, hidx]

/-- The block of `a5`: layer 1. -/
theorem blk5 (c : Dev nD) (t : Fin cfg0.N) (l : Fin 1024) (j : Fin 1024) :
    (iblk m c 5 t : FVec Ideal S1x1024x1024 .bf16) (ix3 0 l j) = a5 m c (ix3 1 l j) := by
  have hidx := (idx t).2.2.2.2.2.1
  refine Eq.trans ?_ (w0_at m c l j)
  blk_ext [iblk, hidx]

/-- The block of `a6`: layer 1. -/
theorem blk6 (c : Dev nD) (t : Fin cfg0.N) (l : Fin 1024) (j : Fin 4096) :
    (iblk m c 6 t : FVec Ideal S1x1024x4096 .bf16) (ix3 0 l j) = a6 m c (ix3 1 l j) := by
  have hidx := (idx t).2.2.2.2.2.2.1
  refine Eq.trans ?_ (w1_at m c l j)
  blk_ext [iblk, hidx]

/-- The block of `a7`: layer 1. -/
theorem blk7 (c : Dev nD) (t : Fin cfg0.N) (l : Fin 4096) (j : Fin 1024) :
    (iblk m c 7 t : FVec Ideal S1x4096x1024 .bf16) (ix3 0 l j) = a7 m c (ix3 1 l j) := by
  have hidx := (idx t).2.2.2.2.2.2.2.1
  refine Eq.trans ?_ (w2_at m c l j)
  blk_ext [iblk, hidx]

/-- The block of the norm weights: layer 1. -/
theorem blk8 (c : Dev nD) (t : Fin cfg0.N) (r : Fin 4) (j : Fin 1024) :
    (iblk m c 8 t : FVec Ideal S1x4x1024 .f32) (ix3 0 r j) = a8 m c (ix3 1 r j) := by
  have hidx := (idx t).2.2.2.2.2.2.2.2.1
  blk_ext [iblk, V, hidx]

/-- The block of modulation 2: the grid point's batch. -/
theorem blk9 (c : Dev nD) (t : Fin cfg0.N) (j : Fin 1024) :
    (iblk m c 9 t : FVec Ideal S1x1x1x1x1024 .f32) (ix5 0 0 0 0 j)
      = a9 m c (ix3 1 ⟨t.val / 16, by have := lt_two t; omega⟩ ⟨2048 + j, by omega⟩) := by
  have hidx := (idx t).2.2.2.2.2.2.2.2.2.1
  refine Eq.trans ?_ (mods_at m c ⟨t.val / 16, lt_two t⟩ 2 j)
  blk_ext [iblk, hidx]

/-- The block of modulation 3: the grid point's batch. -/
theorem blk10 (c : Dev nD) (t : Fin cfg0.N) (j : Fin 1024) :
    (iblk m c 10 t : FVec Ideal S1x1x1x1x1024 .f32) (ix5 0 0 0 0 j)
      = a9 m c (ix3 1 ⟨t.val / 16, by have := lt_two t; omega⟩ ⟨3072 + j, by omega⟩) := by
  have hidx := (idx t).2.2.2.2.2.2.2.2.2.2.1
  refine Eq.trans ?_ (mods_at m c ⟨t.val / 16, lt_two t⟩ 3 j)
  blk_ext [iblk, hidx]

/-- The block of modulation 4: the grid point's batch. -/
theorem blk11 (c : Dev nD) (t : Fin cfg0.N) (j : Fin 1024) :
    (iblk m c 11 t : FVec Ideal S1x1x1x1x1024 .f32) (ix5 0 0 0 0 j)
      = a9 m c (ix3 1 ⟨t.val / 16, by have := lt_two t; omega⟩ ⟨4096 + j, by omega⟩) := by
  have hidx := (idx t).2.2.2.2.2.2.2.2.2.2.2.1
  refine Eq.trans ?_ (mods_at m c ⟨t.val / 16, lt_two t⟩ 4 j)
  blk_ext [iblk, hidx]

/-- The block of modulation 5: the grid point's batch. -/
theorem blk12 (c : Dev nD) (t : Fin cfg0.N) (j : Fin 1024) :
    (iblk m c 12 t : FVec Ideal S1x1x1x1x1024 .f32) (ix5 0 0 0 0 j)
      = a9 m c (ix3 1 ⟨t.val / 16, by have := lt_two t; omega⟩ ⟨5120 + j, by omega⟩) := by
  have hidx := (idx t).2.2.2.2.2.2.2.2.2.2.2.2.1
  refine Eq.trans ?_ (mods_at m c ⟨t.val / 16, lt_two t⟩ 5 j)
  blk_ext [iblk, hidx]

end Cert.KernelIdeal.OddValue
-- ==== Proof.Final.lean ====
/- The odd layer's kernel: its result array is the layer's end of every row, from the argument arrays. -/
module

public import proofs.«01_k».proof.Proof.KernelRows
public import proofs.«01_k».proof.Proof.Blocks
public import proofs.«01_k».proof.Proof.Gen.KernelIdeal.Value

set_option maxRecDepth 16384

@[expose] public section
noncomputable section

open Idealize.ShloMosaic Idealize.ShloMosaic.TcCoe Idealize.SL.Sem
open Idealize.ShloMosaic.Pipeline (Dat)
open Cert.KernelIdeal Cert.KernelIdeal.Gen Cert.Rows

namespace Cert.KernelIdeal.OddValue

variable (m : (ℓ : Loc nD τ sig) → Buf (Elt Ideal) ℓ)

/-- The layer's end of every row, from the kernel's argument arrays. -/
def RES (c : Dev nD) (b : Fin 2) (n : Fin 8192) (j : Fin 1024) : EReal :=
  oddEnd (fun b n j => a0 m c (ix3 b n j)) (fun d b n k => a1 m c (ix4 d b n k)) (fun b n k => a2 m c (ix3 b n k))
    (fun b n k => a3 m c (ix3 b n k)) (fun k => a4 m c (ix2 0 k)) (fun l j => a5 m c (ix3 1 l j))
    (fun l k => a6 m c (ix3 1 l k)) (fun k j => a7 m c (ix3 1 k j)) (fun r j => a8 m c (ix3 1 r j))
    (fun b k => a9 m c (ix3 1 ⟨b, by omega⟩ k)) b n j

/-- What the body leaves in the output block, from the blocks it is handed, at a row and a column. -/
theorem out_at (x0 : FVec Ideal S1x512x1024 .f32) (x1 : FVec Ideal S2x1x512x512 .f32) (x2 : FVec Ideal S1x512x512 .bf16)
    (x3 : FVec Ideal S1x512x512 .f32) (x4 : FVec Ideal S1x512 .f32) (x5 : FVec Ideal S1x1024x1024 .bf16)
    (x6 : FVec Ideal S1x1024x4096 .bf16) (x7 : FVec Ideal S1x4096x1024 .bf16) (x8 : FVec Ideal S1x4x1024 .f32)
    (x9 x10 x11 x12 : FVec Ideal S1x1x1x1x1024 .f32) (b : Fin 1) (r : Fin 512) (k : Fin 1024) :
    out0_13 (F := Ideal) x0 x1 x2 x3 x4 x5 x6 x7 x8 x9 x10 x11 x12 (ix3 b r k)
      = layerEnd (fun j => x0 (ix3 0 r j))
          (project (gated (fun j => x1 (ix4 0 0 r j) + x1 (ix4 1 0 r j)) (fun j => x4 (ix2 0 j))
            (fun j => x2 (ix3 0 r j))) (fun j => x3 (ix3 0 r j)) (fun l j => x5 (ix3 0 l j)))
          (fun j => x9 (ix5 0 0 0 0 j)) (fun j => x10 (ix5 0 0 0 0 j)) (fun j => x11 (ix5 0 0 0 0 j))
          (fun j => x12 (ix5 0 0 0 0 j)) (fun j => x8 (ix3 0 1 j)) (fun j => x8 (ix3 0 2 j)) (fun j => x8 (ix3 0 3 j))
          (fun l k => x6 (ix3 0 l k)) (fun l j => x7 (ix3 0 l j)) k := by
  frame_out
  unfold k0_pay18 k0_pay17 k0_pay16 k0_pay15
  frame_out
  rw [OddRows.pay1_at]
  simp only [OddRows.pay8_at, OddRows.pay12_at, OddRows.pay13_at, OddRows.pay10_at, OddRows.pay9_at, OddRows.pay11_at, OddRows.pay14_at, OddRows.pay5_at, OddRows.pay7_at, OddRows.pay6_at, OddRows.pay2_at,
    OddRows.pay3_at, OddRows.pay4_at]
  pointwise
  unfold layerEnd ffn
  simp only [sum_chunks]
  rfl

/-- What a grid point leaves in its block of the result is the layer's end of the block's rows. -/
theorem point (c : Dev nD) (t : Fin cfg0.N) (y : S1x512x1024.Idx) :
    out0_13 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) y
    = RES m c ⟨t.val / 16, lt_two t⟩ ⟨512 * (t.val % 16) + (y 1).val, by idx_bounds; omega⟩ (y 2) := by
  idx_vars y
  refine (out_at _ _ _ _ _ _ _ _ _ _ _ _ _ _ _ _).trans ?_
  exact layerEnd_congr (blk0 m c t _)
    (gated_congr (fun k => Ideal.add_congr (blk1 m c t 0 _ k) (blk1 m c t 1 _ k)) (blk4 m c t) (blk2 m c t _))
    (blk3 m c t _) (blk5 m c t) (blk9 m c t) (blk10 m c t) (blk11 m c t) (blk12 m c t)
    (blk8 m c t 1) (blk8 m c t 2) (blk8 m c t 3) (blk6 m c t) (blk7 m c t) rfl

/-- The kernel's result array: the layer's end of every row. -/
theorem final (c : Dev nD) : (dats m 0 c).arrAt 13 (cfgs 0).N
    = (fun i : S2x8192x1024.Idx => RES m c (i 0) (i 1) (i 2)) := by
  refine (dats m 0 c).arrAt_eq_of_covers 13 _ (by decide +kernel) fun t _ y => ?_
  have hidx := idx t
  blk_simp
  rw [after0_13]
  refine (point m c t y).trans ?_
  refine congr (congr (congrArg (RES m c) ?_) ?_) ?_ <;> refine Fin.ext ?_ <;> blk_simp [hidx] <;> idx_bounds <;> (try dsimp only) <;> omega

end Cert.KernelIdeal.OddValue
-- ==== Proof.RefRows.lean ====
/- The odd layer's reference, stage by stage, read at a batch, a token and a column. -/
module

public import proofs.«01_k».proof.Proof.Spec
public import proofs.«01_k».proof.Proof.Gen.ReferenceIdeal.Run
public import Idealize.ShloMosaic.Lib.Pipeline.ValueKit
public import Idealize.ShloMosaic.Lib.Tactic.CleanTypes

set_option maxRecDepth 16384

@[expose] public section
noncomputable section

open Idealize.ShloMosaic Idealize.ShloMosaic.TcCoe Idealize.SL.Sem Idealize.ShloMosaic.StableHlo
open Cert.ReferenceIdeal Cert.ReferenceIdeal.Value Cert.Rows

namespace Cert.ReferenceIdeal.OddRows

variable (V : Valuation τ sig (Elt Ideal))

/-- The arguments of the reference as arrays. -/
abbrev a0 : FVec Ideal S2x8192x1024 .f32 := V (Proc.devRef .tc main_arg0)
abbrev a1 : FVec Ideal S2x2x8448x512 .f32 := V (Proc.devRef .tc main_arg1)
abbrev a2 : FVec Ideal S2x8448x2560 .bf16 := V (Proc.devRef .tc main_arg2)
abbrev a3 : FVec Ideal S2x8192x512 .f32 := V (Proc.devRef .tc main_arg3)
abbrev a4 : FVec Ideal S1x512 .f32 := V (Proc.devRef .tc main_arg4)
abbrev a5 : FVec Ideal S2x1024x1024 .f32 := V (Proc.devRef .tc main_arg5)
abbrev a6 : FVec Ideal S2x1024x4096 .f32 := V (Proc.devRef .tc main_arg6)
abbrev a7 : FVec Ideal S2x4096x1024 .f32 := V (Proc.devRef .tc main_arg7)
abbrev a8 : FVec Ideal S2x4x1024 .f32 := V (Proc.devRef .tc main_arg8)
abbrev a9 : FVec Ideal S2x8x6144 .f32 := V (Proc.devRef .tc main_arg9)

/-- The modulation vector of layer 1. -/
theorem mod_at (b : Fin 2) (k : Fin 6144) :
    (res_main_v2 V : FVec Ideal S2x1x6144 .f32) (ix3 b 0 k) = a9 V (ix3 1 ⟨b, by omega⟩ k) := by
  unfold res_main_v2
  clean_types
  pointwise

/-- The sum of the two directions, by head and lane. -/
theorem sum_at (b : Fin 2) (n : Fin 8448) (h : Fin 4) (l : Fin 128) :
    (res_main_v16 V : FVec Ideal S2x8448x4x128 .f32) (ix4 b n h l)
      = a1 V (ix4 0 b n ⟨h * 128 + l, by omega⟩) + a1 V (ix4 1 b n ⟨h * 128 + l, by omega⟩) := by
  unfold res_main_v16
  clean_types
  pointwise

/-- The gate columns of the projected input. -/
theorem gate_at (b : Fin 2) (n : Fin 8448) (k : Fin 512) :
    (res_main_v10 V : FVec Ideal S2x8448x512 .f32) (ix3 b n k) = a2 V (ix3 b n ⟨2048 + k, by omega⟩) := by
  unfold res_main_v10
  clean_types
  pointwise

/-- The output projection of the gated row beside the attention row. -/
theorem proj_at (b : Fin 2) (n : Fin 8192) (j : Fin 1024) :
    (res_main_v38 V : FVec Ideal S2x8192x1024 .f32) (ix3 b n j)
      = project
          (gated (fun k => a1 V (ix4 0 b ⟨256 + n, by omega⟩ k) + a1 V (ix4 1 b ⟨256 + n, by omega⟩ k))
            (fun k => a4 V (ix2 0 k)) (fun k => a2 V (ix3 b ⟨256 + n, by omega⟩ ⟨2048 + k, by omega⟩)))
          (fun k => a3 V (ix3 b n k)) (fun l j => a5 V (ix3 1 l j)) j := by
  unfold res_main_v38
  clean_types
  pointwise [project, gated, sum_at, gate_at, headScale, cHead, cEps]
  simp only [Nat.div_add_mod']
  rfl

/-- The row after the mixer's gated residual. -/
theorem mid_at (b : Fin 2) (n : Fin 8192) (j : Fin 1024) :
    (res_main_v56 V : FVec Ideal S2x8192x1024 .f32) (ix3 b n j)
      = resid (fun j => a0 V (ix3 b n j)) (fun l => a9 V (ix3 1 ⟨b, by omega⟩ ⟨2048 + l, by omega⟩))
          (rms (fun j => (res_main_v38 V : FVec Ideal S2x8192x1024 .f32) (ix3 b n j)) (fun j => a8 V (ix3 1 1 j))) j := by
  unfold res_main_v56
  clean_types
  pointwise [resid, rms, rmsScale, cWidth, cEps, mod_at]

/-- One hidden unit of the feed-forward block. -/
theorem hidden_at (b : Fin 2) (n : Fin 8192) (k : Fin 4096) :
    (res_main_v83 V : FVec Ideal S2x8192x4096 .f32) (ix3 b n k)
      = hiddenUnit (modulated (fun j => (res_main_v56 V : FVec Ideal S2x8192x1024 .f32) (ix3 b n j))
          (fun j => a8 V (ix3 1 2 j)) (fun l => a9 V (ix3 1 ⟨b, by omega⟩ ⟨4096 + l, by omega⟩))
          (fun l => a9 V (ix3 1 ⟨b, by omega⟩ ⟨3072 + l, by omega⟩))) (fun l => a6 V (ix3 1 l k)) := by
  unfold res_main_v83
  clean_types
  pointwise [hiddenUnit, modulated, rms, rmsScale, cWidth, cEps, mod_at]

/-- The feed-forward block. -/
theorem ffn_at (b : Fin 2) (n : Fin 8192) (j : Fin 1024) :
    (res_main_v85 V : FVec Ideal S2x8192x1024 .f32) (ix3 b n j)
      = ffn (modulated (fun j => (res_main_v56 V : FVec Ideal S2x8192x1024 .f32) (ix3 b n j))
          (fun j => a8 V (ix3 1 2 j)) (fun l => a9 V (ix3 1 ⟨b, by omega⟩ ⟨4096 + l, by omega⟩))
          (fun l => a9 V (ix3 1 ⟨b, by omega⟩ ⟨3072 + l, by omega⟩)))
          (fun l k => a6 V (ix3 1 l k)) (fun k j => a7 V (ix3 1 k j)) j := by
  unfold res_main_v85
  clean_types
  pointwise [ffn, hidden_at]

/-- The reference's result array, from its arguments. -/
def result : FVec Ideal S2x8192x1024 .f32 := val2 V (Proc.devRef .tc main_v103)

/-- The reference's result at a batch, a token and a column. -/
theorem result_at (b : Fin 2) (n : Fin 8192) (j : Fin 1024) :
    result V (ix3 b n j)
      = oddEnd (fun b n j => a0 V (ix3 b n j)) (fun d b n k => a1 V (ix4 d b n k)) (fun b n k => a2 V (ix3 b n k))
          (fun b n k => a3 V (ix3 b n k)) (fun k => a4 V (ix2 0 k)) (fun l j => a5 V (ix3 1 l j))
          (fun l k => a6 V (ix3 1 l k)) (fun k j => a7 V (ix3 1 k j)) (fun r j => a8 V (ix3 1 r j))
          (fun b k => a9 V (ix3 1 ⟨b, by omega⟩ k)) b n j := by
  have hmid : (fun j => (res_main_v56 V : FVec Ideal S2x8192x1024 .f32) (ix3 b n j)) = _ :=
    funext fun j => mid_at V b n j
  have hproj : (fun j => (res_main_v38 V : FVec Ideal S2x8192x1024 .f32) (ix3 b n j)) = _ :=
    funext fun j => proj_at V b n j
  have hffn : (fun j => (res_main_v85 V : FVec Ideal S2x8192x1024 .f32) (ix3 b n j)) = _ :=
    funext fun j => ffn_at V b n j
  have key : result V (ix3 b n j)
      = resid (fun j => (res_main_v56 V : FVec Ideal S2x8192x1024 .f32) (ix3 b n j))
          (fun l => a9 V (ix3 1 ⟨b, by omega⟩ ⟨5120 + l, by omega⟩))
          (rms (fun j => (res_main_v85 V : FVec Ideal S2x8192x1024 .f32) (ix3 b n j)) (fun j => a8 V (ix3 1 3 j)))
          j := by
    refine (congrFun (val2_main_v103 V) (ix3 b n j)).trans ?_
    clean_types
    pointwise [resid, rms, rmsScale, cWidth, cEps, mod_at]
  rw [key, hffn, hmid, hproj]
  rfl

end Cert.ReferenceIdeal.OddRows
-- ==== Proof.OddClaims.lean ====
/- The claims about the odd layer's closing call, from the two value modules and the generated runs. -/
module

public import proofs.«01_k».proof.Defs
public import proofs.«01_k».proof.Proof.Final
public import proofs.«01_k».proof.Proof.RefRows
public import proofs.«01_k».proof.Proof.Gen.Kernel.Frame
public import Idealize.ShloMosaic.Lib.Quiescent

set_option maxRecDepth 16384

@[expose] public section
noncomputable section

open Idealize.ShloMosaic Idealize.ShloMosaic.TcCoe Idealize.SL.Sem Idealize.ShloMosaic.StableHlo Cert.Rows

namespace Cert.Proof.Odd

/-- The reference runs, keeps its arguments and leaves every counter at zero. -/
theorem quiescentReference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run m ρ)

/-- From arguments that agree, the reference's result array is the layer's end of the kernel's arguments. -/
theorem result_eq (m : (ℓ : Loc Cert.KernelIdeal.nD Cert.KernelIdeal.τ Cert.KernelIdeal.sig) → Buf (Elt Ideal) ℓ)
    (c : Dev Cert.KernelIdeal.nD)
    (V : Valuation Cert.ReferenceIdeal.τ Cert.ReferenceIdeal.sig (Elt Ideal))
    (h0 : Cert.ReferenceIdeal.OddRows.a0 V = Cert.KernelIdeal.OddValue.a0 m c)
    (h1 : Cert.ReferenceIdeal.OddRows.a1 V = Cert.KernelIdeal.OddValue.a1 m c)
    (h2 : Cert.ReferenceIdeal.OddRows.a2 V = Cert.KernelIdeal.OddValue.a2 m c)
    (h3 : Cert.ReferenceIdeal.OddRows.a3 V = Cert.KernelIdeal.OddValue.a3 m c)
    (h4 : Cert.ReferenceIdeal.OddRows.a4 V = Cert.KernelIdeal.OddValue.a4 m c)
    (h5 : Cert.ReferenceIdeal.OddRows.a5 V = Cert.KernelIdeal.OddValue.a5 m c)
    (h6 : Cert.ReferenceIdeal.OddRows.a6 V = Cert.KernelIdeal.OddValue.a6 m c)
    (h7 : Cert.ReferenceIdeal.OddRows.a7 V = Cert.KernelIdeal.OddValue.a7 m c)
    (h8 : Cert.ReferenceIdeal.OddRows.a8 V = Cert.KernelIdeal.OddValue.a8 m c)
    (h9 : Cert.ReferenceIdeal.OddRows.a9 V = Cert.KernelIdeal.OddValue.a9 m c) :
    Cert.ReferenceIdeal.OddRows.result V
      = fun i : Cert.KernelIdeal.S2x8192x1024.Idx => Cert.KernelIdeal.OddValue.RES m c (i 0) (i 1) (i 2) := by
  funext i
  rw [eq_ix3 i]
  refine (Cert.ReferenceIdeal.OddRows.result_at V (i 0) (i 1) (i 2)).trans ?_
  rw [h0, h1, h2, h3, h4, h5, h6, h7, h8, h9]
  rfl

/-- At the extended reals the kernel and the reference leave equal results. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => fun i : Cert.KernelIdeal.S2x8192x1024.Idx =>
    Cert.KernelIdeal.OddValue.RES m c (i 0) (i 1) (i 2), ?_, ?_⟩
  · exact (θ_run Cert.KernelIdeal.defs _ _).mono
      (fun _ h c => ⟨(h c).1.trans (Cert.KernelIdeal.OddValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    exact (Cert.ReferenceIdeal.Value.val2_main_v103 (launchContents m' c)).symm.trans
      (result_eq m c (launchContents m' c) h0 h1 h2 h3 h4 h5 h6 h7 h8 h9)

end Cert.Proof.Odd
-- ==== Proof.AttnSpec.lean ====
/- One query's attention over the 8448 keys, in the two orders of arithmetic the programs use, and that they agree
   when the scores are real numbers. -/
module

public import Idealize.ShloMosaic.Lib.Pointwise
public import Idealize.ShloMosaic.Lib.ValueIdx

set_option maxRecDepth 16384

@[expose] public section
noncomputable section

open Idealize.ShloMosaic

namespace Cert.Attn

/-- The word every running maximum starts from. -/
def cLow : EReal := Ideal.ofBits .f32 0xFF800000#32

/-- The greatest of a row of scores. -/
def top (s : Fin 8448 → EReal) : EReal := Finset.univ.fold max cLow s

/-- One output lane as the kernel computes it: powers of two of the shifted scores, their sum taken against
    a row `w` laid under the values, one division at the end. -/
def lateDivide (s v w : Fin 8448 → EReal) : EReal :=
  Ideal.div (∑ t, v t * Ideal.exp2 (s t - top s)) (∑ t, w t * Ideal.exp2 (s t - top s))

/-- One output lane as the reference computes it: the weights of the softmax first, then the weighted sum. -/
def softmaxSum (s v : Fin 8448 → EReal) : EReal :=
  ∑ t, v t * Ideal.div (Ideal.exp (s t - max cLow (top s))) (∑ u, Ideal.exp (s u - max cLow (top s)))

/-- The score of one query and one key before the scale: the plain lanes and the rotary lanes. -/
def score (qn kn : Fin 128 → EReal) (qr kr : Fin 64 → EReal) : EReal :=
  (∑ d, qn d * kn d) + ∑ d, kr d * qr d

/-- The scale of the scores: one over the root of 192. -/
def scale : EReal := (((Real.sqrt 192)⁻¹ : ℝ) : EReal)

/-- The scale of the scores in powers of two. -/
def scale2 : EReal := (((Real.sqrt 192)⁻¹ * (Real.log 2)⁻¹ : ℝ) : EReal)

/-- The word of minus infinity is the least element. -/
theorem cLow_eq : cLow = ⊥ := by
  simp [cLow, Ideal.ofBits, Ideal.ieee]

/-- The maximum of real scores is the greatest of them. -/
theorem top_coe (y : Fin 8448 → ℝ) (t₀ : Fin 8448) (h : ∀ t, y t ≤ y t₀) :
    top (fun t => (y t : EReal)) = (y t₀ : EReal) := by
  refine le_antisymm ?_ ?_
  · refine (Finset.fold_max_le _).2 ⟨by rw [cLow_eq]; exact bot_le, fun t _ => ?_⟩
    exact_mod_cast h t
  · exact (Finset.le_fold_max _).2 (Or.inr ⟨t₀, Finset.mem_univ _, le_rfl⟩)

/-- A sum of real numbers is real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A positive real factor goes inside a sum of any extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top _) _ _

/-- A power of two of a number over the logarithm of two is its exponential. -/
theorem exp2_scaled (z : ℝ) : Ideal.exp2 ((z * (Real.log 2)⁻¹ : ℝ) : EReal) = ((Real.exp z : ℝ) : EReal) := by
  have h2 : Real.log 2 ≠ 0 := (Real.log_pos (by norm_num)).ne'
  rw [Ideal.exp2_coe]
  refine congrArg _ ?_
  rw [show Real.rpow 2 (z * (Real.log 2)⁻¹) = (2 : ℝ) ^ (z * (Real.log 2)⁻¹) from rfl,
    Real.rpow_def_of_pos (by norm_num)]
  congr 1
  field_simp

/-- The two orders of arithmetic give one number when the scores are real and the row under the values is ones. -/
theorem attend_eq (x : Fin 8448 → ℝ) (v : Fin 8448 → EReal) :
    lateDivide (fun t => (x t : EReal) * scale2) v (fun _ => 1) = softmaxSum (fun t => (x t : EReal) * scale) v := by
  have hL : (0 : ℝ) ≤ (Real.log 2)⁻¹ := inv_nonneg.2 (Real.log_nonneg (by norm_num))
  obtain ⟨t₀, -, ht⟩ := Finset.exists_max_image (Finset.univ : Finset (Fin 8448))
    (fun t => x t * (Real.sqrt 192)⁻¹) ⟨0, Finset.mem_univ _⟩
  set y : Fin 8448 → ℝ := fun t => x t * (Real.sqrt 192)⁻¹ with hy
  have e1 : (fun t => (x t : EReal) * scale) = fun t => (y t : EReal) := funext fun t => (EReal.coe_mul _ _).symm
  have e2 : (fun t => (x t : EReal) * scale2) = fun t => ((y t * (Real.log 2)⁻¹ : ℝ) : EReal) := funext fun t => by
    rw [scale2, ← EReal.coe_mul, hy, mul_assoc]
  rw [e1, e2]
  have h1 := top_coe y t₀ fun t => ht t (Finset.mem_univ _)
  have h2 := top_coe (fun t => y t * (Real.log 2)⁻¹) t₀
    fun t => mul_le_mul_of_nonneg_right (ht t (Finset.mem_univ _)) hL
  have p1 : ∀ t, Ideal.exp ((y t : EReal) - (y t₀ : EReal)) = ((Real.exp (y t - y t₀) : ℝ) : EReal) := fun t => by
    rw [← EReal.coe_sub, Ideal.exp_coe]
  have p2 : ∀ t, Ideal.exp2 (((y t * (Real.log 2)⁻¹ : ℝ) : EReal) - ((y t₀ * (Real.log 2)⁻¹ : ℝ) : EReal))
      = ((Real.exp (y t - y t₀) : ℝ) : EReal) := fun t => by
    rw [← EReal.coe_sub, ← sub_mul, exp2_scaled]
  have hpos : 0 < ∑ t, Real.exp (y t - y t₀) :=
    Finset.sum_pos (fun t _ => Real.exp_pos _) ⟨t₀, Finset.mem_univ _⟩
  unfold lateDivide softmaxSum
  rw [h1, h2, cLow_eq, max_eq_right bot_le]
  simp only [p1, p2, one_mul, coe_sum]
  simp only [Ideal.div_coe hpos.ne']
  rw [sum_mul_coe _ _ _ (one_div_nonneg.2 hpos.le)]
  exact Finset.sum_congr rfl fun t _ => mul_assoc _ _ _

/-- A query or a key packed for the kernel: plain lanes, rotary lanes, zeros. -/
def pack (a : Fin 128 → EReal) (r : Fin 64 → EReal) (d : Fin 256) : EReal :=
  if h : (d : ℕ) < 128 then a ⟨d, h⟩ else if h : (d : ℕ) - 128 < 64 then r ⟨(d : ℕ) - 128, h⟩ else 0

/-- The product of a packed key and a packed query is their score. -/
theorem sum_pack (qn kn : Fin 128 → EReal) (qr kr : Fin 64 → EReal) :
    ∑ d, pack kn kr d * pack qn qr d = score qn kn qr kr := by
  have e : ∀ f : Fin 256 → EReal, ∑ d, f d = (∑ d : Fin 128, f ⟨d, by omega⟩) + ((∑ d : Fin 64, f ⟨128 + d, by omega⟩)
      + ∑ d : Fin 64, f ⟨192 + d, by omega⟩) := fun f => by
    refine (Fin.sum_univ_add (a := 128) (b := 128) f).trans (congrArg₂ (· + ·) rfl
      ((Fin.sum_univ_add (a := 64) (b := 64) fun d => f (Fin.natAdd 128 d)).trans (congrArg₂ (· + ·) rfl ?_)))
    exact Finset.sum_congr rfl fun l _ => congrArg f (Fin.ext (by simp; omega))
  rw [e]
  have h3 : (∑ d : Fin 64, pack kn kr ⟨192 + d, by omega⟩ * pack qn qr ⟨192 + d, by omega⟩) = 0 :=
    Finset.sum_eq_zero fun d _ => by
      have h1 : ¬ (192 + (d : ℕ) < 128) := by omega
      have h2 : ¬ (192 + (d : ℕ) - 128 < 64) := by omega
      simp only [pack, dif_neg h1, dif_neg h2, mul_zero]
  rw [h3, add_zero]
  refine congrArg₂ (· + ·) (Finset.sum_congr rfl fun d _ => ?_) (Finset.sum_congr rfl fun d _ => ?_)
  · simp only [pack, dif_pos d.isLt]
    exact mul_comm _ _
  · have h1 : ¬ (128 + (d : ℕ) < 128) := by omega
    have h2 : 128 + (d : ℕ) - 128 < 64 := by omega
    simp only [pack, dif_neg h1, dif_pos h2]
    refine congrArg₂ (· * ·) (congrArg kr (Fin.ext ?_)) (congrArg qr (Fin.ext ?_)) <;> simp

/-- One lane of the kernel's arithmetic depends on the query's packed row, the keys and the values entry by entry. -/
theorem lateDivide_congr {K K' : Fin 8448 → Fin 256 → EReal} {Q Q' : Fin 256 → EReal} {v v' w w' : Fin 8448 → EReal}
    (hk : ∀ t d, K t d = K' t d) (hq : ∀ d, Q d = Q' d) (hv : ∀ t, v t = v' t) (hw : ∀ t, w t = w' t) :
    lateDivide (fun t => (∑ d, K t d * Q d) * scale2) v w = lateDivide (fun t => (∑ d, K' t d * Q' d) * scale2) v' w' := by
  obtain rfl := funext fun t => funext (hk t)
  obtain rfl := funext hq; obtain rfl := funext hv; obtain rfl := funext hw; rfl

/-- The head that output column `j` belongs to. -/
def head (j : Fin 512) : Fin 4 := ⟨(j : ℕ) / 128, by omega⟩
/-- The lane of its head that output column `j` is. -/
def lane (j : Fin 512) : Fin 128 := ⟨(j : ℕ) % 128, by omega⟩

/-- The score of query `n` and key `t` in head `h` of batch `b`. -/
def scoreAt (qn : Fin 2 → Fin 8192 → Fin 4 → Fin 128 → EReal) (qr : Fin 2 → Fin 8192 → Fin 4 → Fin 64 → EReal)
    (kn : Fin 2 → Fin 8448 → Fin 4 → Fin 128 → EReal) (kr : Fin 2 → Fin 8448 → Fin 64 → EReal) (b : Fin 2) (n : Fin 8192)
    (h : Fin 4) (t : Fin 8448) : EReal :=
  score (qn b n h) (kn b t h) (qr b n h) (kr b t)

/-- The whole result as the kernel computes it. -/
def kernelOut (qn : Fin 2 → Fin 8192 → Fin 4 → Fin 128 → EReal) (qr : Fin 2 → Fin 8192 → Fin 4 → Fin 64 → EReal)
    (kn : Fin 2 → Fin 8448 → Fin 4 → Fin 128 → EReal) (kr : Fin 2 → Fin 8448 → Fin 64 → EReal)
    (v : Fin 2 → Fin 8448 → Fin 4 → Fin 128 → EReal) (b : Fin 2) (n : Fin 8192) (j : Fin 512) : EReal :=
  lateDivide (fun t => scoreAt qn qr kn kr b n (head j) t * scale2) (fun t => v b t (head j) (lane j)) (fun _ => 1)

/-- The whole result as the reference computes it. -/
def referenceOut (qn : Fin 2 → Fin 8192 → Fin 4 → Fin 128 → EReal) (qr : Fin 2 → Fin 8192 → Fin 4 → Fin 64 → EReal)
    (kn : Fin 2 → Fin 8448 → Fin 4 → Fin 128 → EReal) (kr : Fin 2 → Fin 8448 → Fin 64 → EReal)
    (v : Fin 2 → Fin 8448 → Fin 4 → Fin 128 → EReal) (b : Fin 2) (n : Fin 8192) (j : Fin 512) : EReal :=
  softmaxSum (fun t => scoreAt qn qr kn kr b n (head j) t * scale) (fun t => v b t (head j) (lane j))

/-- A product sum of finite rows is a real number. -/
theorem sum_real {n : ℕ} (a b : Fin n → EReal) (ha : ∀ d, ∃ r : ℝ, a d = r) (hb : ∀ d, ∃ r : ℝ, b d = r) :
    ∃ r : ℝ, ∑ d, a d * b d = r := by
  choose x hx using ha
  choose y hy using hb
  exact ⟨∑ d, x d * y d, by simp only [hx, hy, ← EReal.coe_mul, coe_sum]⟩

/-- With finite queries and keys both programs compute the same result. -/
theorem out_eq {qn : Fin 2 → Fin 8192 → Fin 4 → Fin 128 → EReal} {qr : Fin 2 → Fin 8192 → Fin 4 → Fin 64 → EReal}
    {kn : Fin 2 → Fin 8448 → Fin 4 → Fin 128 → EReal} {kr : Fin 2 → Fin 8448 → Fin 64 → EReal}
    (hqn : ∀ b n h d, ∃ r : ℝ, qn b n h d = r) (hqr : ∀ b n h d, ∃ r : ℝ, qr b n h d = r)
    (hkn : ∀ b n h d, ∃ r : ℝ, kn b n h d = r) (hkr : ∀ b n d, ∃ r : ℝ, kr b n d = r)
    (v : Fin 2 → Fin 8448 → Fin 4 → Fin 128 → EReal) (b : Fin 2) (n : Fin 8192) (j : Fin 512) :
    kernelOut qn qr kn kr v b n j = referenceOut qn qr kn kr v b n j := by
  have hs : ∀ t, ∃ r : ℝ, scoreAt qn qr kn kr b n (head j) t = r := fun t => by
    obtain ⟨x, hx⟩ := sum_real _ _ (hqn b n (head j)) (hkn b t (head j))
    obtain ⟨y, hy⟩ := sum_real _ _ (hkr b t) (hqr b n (head j))
    exact ⟨x + y, by rw [scoreAt, score, hx, hy, EReal.coe_add]⟩
  choose x hx using hs
  unfold kernelOut referenceOut
  simp only [hx]
  exact attend_eq x _

end Cert.Attn
-- ==== Proof.AttnRows.lean ====
/- The attention kernel, payload by payload: what each value the body computes is at a row and a column. -/
module

public import proofs.«01_k».proof.Proof.AttnSpec
public import proofs.«01_k».proof.Proof.Gen.Kernel2Ideal.Skeleton
public import Idealize.ShloMosaic.Lib.Pipeline.ValueKit

set_option maxRecDepth 16384

@[expose] public section
noncomputable section

open Idealize.ShloMosaic Idealize.ShloMosaic.TcCoe Idealize.SL.Sem
open Cert.Kernel2Ideal Cert.Kernel2Ideal.Gen Cert.Attn

namespace Cert.Kernel2Ideal.AttnRows

/-- The named scale is the scale in powers of two. -/
theorem scale_eq : Named.named (F := Ideal) κ "scale_log2e" (φ := .f32) 0x3DD53B95#32 = scale2 := rfl

/-- The block of values and ones, its unit axes dropped. -/
theorem pay4_at (v : FVec Ideal S1x1x136x8448 .bf16) (j : Fin 136) (t : Fin 8448) :
    k0_pay4 (F := Ideal) v (ix2 j t) = v (ix4 0 0 j t) := by
  pointwise! [k0_pay4]

/-- The block of keys, its unit axes dropped. -/
theorem pay3_at (k : FVec Ideal S1x1x8448x256 .bf16) (t : Fin 8448) (d : Fin 256) :
    k0_pay3 (F := Ideal) k (ix2 t d) = k (ix4 0 0 t d) := by
  pointwise! [k0_pay3]

/-- The scaled scores of the first 256 queries. -/
theorem pay5_at (k : FVec Ideal S1x1x8448x256 .bf16) (q : FVec Ideal S1x1x256x256 .bf16) (t : Fin 8448) (i : Fin 256) :
    k0_pay5 (F := Ideal) k q (ix2 t i) = (∑ d : Fin 256, k (ix4 0 0 t d) * q (ix4 0 0 i d)) * scale2 := by
  pointwise! [k0_pay5, k0_pay3]

/-- The scaled scores of the second 256 queries. -/
theorem pay6_at (k : FVec Ideal S1x1x8448x256 .bf16) (q : FVec Ideal S1x1x256x256 .bf16) (t : Fin 8448) (i : Fin 256) :
    k0_pay6 (F := Ideal) k q (ix2 t i) = (∑ d : Fin 256, k (ix4 0 0 t d) * q (ix4 0 0 i d)) * scale2 := by
  pointwise! [k0_pay6, k0_pay3]

/-- The scaled scores of the third 256 queries. -/
theorem pay7_at (k : FVec Ideal S1x1x8448x256 .bf16) (q : FVec Ideal S1x1x256x256 .bf16) (t : Fin 8448) (i : Fin 256) :
    k0_pay7 (F := Ideal) k q (ix2 t i) = (∑ d : Fin 256, k (ix4 0 0 t d) * q (ix4 0 0 i d)) * scale2 := by
  pointwise! [k0_pay7, k0_pay3]

/-- The scaled scores of the last 256 queries. -/
theorem pay8_at (k : FVec Ideal S1x1x8448x256 .bf16) (q : FVec Ideal S1x1x256x256 .bf16) (t : Fin 8448) (i : Fin 256) :
    k0_pay8 (F := Ideal) k q (ix2 t i) = (∑ d : Fin 256, k (ix4 0 0 t d) * q (ix4 0 0 i d)) * scale2 := by
  pointwise! [k0_pay8, k0_pay3]

/-- Values and ones times the weights of the third 256 queries. -/
theorem pay9_at (v : FVec Ideal S136x8448 .bf16) (s : FVec Ideal S8448x256 .f32) (j : Fin 136) (i : Fin 256) :
    k0_pay9 (F := Ideal) v s (ix2 j i)
      = ∑ t, v (ix2 j t) * Ideal.exp2 (s (ix2 t i) - top (fun t => s (ix2 t i))) := by
  pointwise! [k0_pay9, top, cLow]

/-- Values and ones times the weights of the last 256 queries. -/
theorem pay10_at (v : FVec Ideal S136x8448 .bf16) (s : FVec Ideal S8448x256 .f32) (j : Fin 136) (i : Fin 256) :
    k0_pay10 (F := Ideal) v s (ix2 j i)
      = ∑ t, v (ix2 j t) * Ideal.exp2 (s (ix2 t i) - top (fun t => s (ix2 t i))) := by
  pointwise! [k0_pay10, top, cLow]

/-- The output rows of the first 256 queries. -/
theorem pay11_at (v : FVec Ideal S136x8448 .bf16) (s : FVec Ideal S8448x256 .f32) (b : Fin 1) (i : Fin 256)
    (j : Fin 128) :
    k0_pay11 (F := Ideal) v s (ix3 b i j)
      = lateDivide (fun t => s (ix2 t i)) (fun t => v (ix2 ⟨j, by omega⟩ t)) (fun t => v (ix2 128 t)) := by
  pointwise! [k0_pay11, lateDivide, top, cLow]

/-- The output rows of the second 256 queries. -/
theorem pay12_at (v : FVec Ideal S136x8448 .bf16) (s : FVec Ideal S8448x256 .f32) (b : Fin 1) (i : Fin 256)
    (j : Fin 128) :
    k0_pay12 (F := Ideal) v s (ix3 b i j)
      = lateDivide (fun t => s (ix2 t i)) (fun t => v (ix2 ⟨j, by omega⟩ t)) (fun t => v (ix2 128 t)) := by
  pointwise! [k0_pay12, lateDivide, top, cLow]

/-- The value lanes of the third product. -/
theorem pay13_at (v : FVec Ideal S136x8448 .bf16) (s : FVec Ideal S8448x256 .f32) (j : Fin 128) (i : Fin 256) :
    k0_pay13 (F := Ideal) v s (ix2 j i) = k0_pay9 (F := Ideal) v s (ix2 ⟨j, by omega⟩ i) := by
  pointwise! [k0_pay13]

/-- The division by the row of ones' lane, and the transpose, of the third product. -/
theorem pay1_at (o : FVec Ideal S136x256 .f32) (p : FVec Ideal S128x256 .f32) (b : Fin 1) (i : Fin 256) (j : Fin 128) :
    k0_pay1 (F := Ideal) o p (ix3 b i j) = Ideal.div (p (ix2 j i)) (o (ix2 128 i)) := by
  pointwise! [k0_pay1]

/-- The division by the row of ones' lane, and the transpose, of the last product. -/
theorem pay2_at (o : FVec Ideal S136x256 .f32) (b : Fin 1) (i : Fin 256) (j : Fin 128) :
    k0_pay2 (F := Ideal) o (ix3 b i j) = Ideal.div (o (ix2 ⟨j, by omega⟩ i)) (o (ix2 128 i)) := by
  pointwise! [k0_pay2]

end Cert.Kernel2Ideal.AttnRows
-- ==== Proof.AttnBlocks.lean ====
/- The attention kernel: the blocks its body reads at a grid point, as entries of the argument arrays. -/
module

public import proofs.«01_k».proof.Proof.AttnSpec
public import proofs.«01_k».proof.Proof.Gen.Kernel2Ideal.Frame
public import Idealize.ShloMosaic.Lib.Pipeline.ValueKit
public import Idealize.ShloMosaic.Lib.StableHlo.ReadAt

set_option maxRecDepth 16384

@[expose] public section
noncomputable section

open Idealize.ShloMosaic Idealize.ShloMosaic.TcCoe Idealize.SL.Sem
open Idealize.ShloMosaic.Pipeline (Dat)
open Cert.Kernel2Ideal Cert.Kernel2Ideal.Gen Cert.Attn

namespace Cert.Kernel2Ideal.AttnValue

variable (m : (ℓ : Loc nD τ sig) → Buf (Elt Ideal) ℓ)

/-- The argument arrays. -/
abbrev a0 (c : Dev nD) : FVec Ideal S2x8192x4x128 .f32 := m ((c : Thread nD τ).loc main_arg0)
abbrev a1 (c : Dev nD) : FVec Ideal S2x8192x4x64 .f32 := m ((c : Thread nD τ).loc main_arg1)
abbrev a2 (c : Dev nD) : FVec Ideal S2x8448x4x128 .f32 := m ((c : Thread nD τ).loc main_arg2)
abbrev a3 (c : Dev nD) : FVec Ideal S2x8448x64 .f32 := m ((c : Thread nD τ).loc main_arg3)
abbrev a4 (c : Dev nD) : FVec Ideal S2x8448x4x128 .f32 := m ((c : Thread nD τ).loc main_arg4)

/-- Where every window's block lies at a grid point. -/
theorem idx : ∀ t : Fin cfg0.N,
    win0_0.index t = ![t.val / 32, t.val / 8 % 4, t.val % 8, 0]
    ∧ win0_1.index t = ![t.val / 32, t.val / 8 % 4, 0, 0]
    ∧ win0_2.index t = ![t.val / 32, t.val / 8 % 4, 0, 0]
    ∧ win0_3.index t = ![t.val / 32, t.val % 8, t.val / 8 % 4] ∧ t.val / 32 < 2 :=
  (by decide +kernel : ∀ t : Fin grid0.N, _)

/-- The batch coordinate of a grid point. -/
theorem lt_two (t : Fin cfg0.N) : t.val / 32 < 2 := (idx t).2.2.2.2

/-- The packed queries. -/
theorem q_at (c : Dev nD) (b : Fin 2) (h : Fin 4) (n : Fin 8192) (d : Fin 256) :
    (V m c main_v8 : FVec Ideal S2x4x8192x256 .bf16) (ix4 b h n d)
      = pack (fun d => a0 m c (ix4 b n h d)) (fun d => a1 m c (ix4 b n h d)) d := by
  entry_read
  clean_types
  pointwise [pack]

/-- The packed keys. -/
theorem k_at (c : Dev nD) (b : Fin 2) (h : Fin 4) (t : Fin 8448) (d : Fin 256) :
    (V m c main_v11 : FVec Ideal S2x4x8448x256 .bf16) (ix4 b h t d)
      = pack (fun d => a2 m c (ix4 b t h d)) (fun d => a3 m c (ix3 b t d)) d := by
  entry_read
  clean_types
  pointwise [pack]

/-- The packed values: the lanes of a head. -/
theorem v_at (c : Dev nD) (b : Fin 2) (h : Fin 4) (j : Fin 128) (t : Fin 8448) :
    (V m c main_v15 : FVec Ideal S2x4x136x8448 .bf16) (ix4 b h ⟨j, by omega⟩ t) = a4 m c (ix4 b t h j) := by
  entry_read
  clean_types
  pointwise

/-- The packed values: the row of ones. -/
theorem one_at (c : Dev nD) (b : Fin 2) (h : Fin 4) (t : Fin 8448) :
    (V m c main_v15 : FVec Ideal S2x4x136x8448 .bf16) (ix4 b h 128 t) = (1 : EReal) := by
  entry_read
  clean_types
  pointwise

/-- The block of queries. -/
theorem blk0 (c : Dev nD) (t : Fin cfg0.N) (r : Fin 1024) (d : Fin 256) :
    (iblk m c 0 t : FVec Ideal S1x1x1024x256 .bf16) (ix4 0 0 r d)
      = pack (fun d => a0 m c (ix4 ⟨t.val / 32, lt_two t⟩ ⟨1024 * (t.val % 8) + r, by omega⟩ ⟨t.val / 8 % 4, by omega⟩ d))
          (fun d => a1 m c (ix4 ⟨t.val / 32, lt_two t⟩ ⟨1024 * (t.val % 8) + r, by omega⟩ ⟨t.val / 8 % 4, by omega⟩ d)) d := by
  have hidx := (idx t).1
  refine Eq.trans ?_ (q_at m c _ _ _ _)
  blk_ext [iblk, hidx]

/-- The block of keys. -/
theorem blk1 (c : Dev nD) (t : Fin cfg0.N) (u : Fin 8448) (d : Fin 256) :
    (iblk m c 1 t : FVec Ideal S1x1x8448x256 .bf16) (ix4 0 0 u d)
      = pack (fun d => a2 m c (ix4 ⟨t.val / 32, lt_two t⟩ u ⟨t.val / 8 % 4, by omega⟩ d))
          (fun d => a3 m c (ix3 ⟨t.val / 32, lt_two t⟩ u d)) d := by
  have hidx := (idx t).2.1
  refine Eq.trans ?_ (k_at m c _ ⟨t.val / 8 % 4, by omega⟩ _ _)
  blk_ext [iblk, hidx]

/-- The block of values: the lanes of the head. -/
theorem blk2 (c : Dev nD) (t : Fin cfg0.N) (j : Fin 128) (u : Fin 8448) :
    (iblk m c 2 t : FVec Ideal S1x1x136x8448 .bf16) (ix4 0 0 ⟨j, by omega⟩ u)
      = a4 m c (ix4 ⟨t.val / 32, lt_two t⟩ u ⟨t.val / 8 % 4, by omega⟩ j) := by
  have hidx := (idx t).2.2.1
  refine Eq.trans ?_ (v_at m c _ _ _ _)
  blk_ext [iblk, hidx]

/-- The block of values: the row of ones. -/
theorem blk2_one (c : Dev nD) (t : Fin cfg0.N) (u : Fin 8448) :
    (iblk m c 2 t : FVec Ideal S1x1x136x8448 .bf16) (ix4 0 0 128 u) = (1 : EReal) := by
  have hidx := (idx t).2.2.1
  refine Eq.trans ?_ (one_at m c ⟨t.val / 32, lt_two t⟩ ⟨t.val / 8 % 4, by omega⟩ u)
  blk_ext [iblk, hidx]

end Cert.Kernel2Ideal.AttnValue
-- ==== Proof.AttnFinal.lean ====
/- The attention kernel: its result array is every query's attention, from the argument arrays. -/
module

public import proofs.«01_k».proof.Proof.AttnRows
public import proofs.«01_k».proof.Proof.AttnBlocks
public import proofs.«01_k».proof.Proof.Gen.Kernel2Ideal.Value

set_option maxRecDepth 16384

@[expose] public section
noncomputable section

open Idealize.ShloMosaic Idealize.ShloMosaic.TcCoe Idealize.SL.Sem
open Idealize.ShloMosaic.Pipeline (Dat)
open Cert.Kernel2Ideal Cert.Kernel2Ideal.Gen Cert.Attn

namespace Cert.Kernel2Ideal.AttnValue

variable (m : (ℓ : Loc nD τ sig) → Buf (Elt Ideal) ℓ)

/-- Every query's attention, from the kernel's argument arrays. -/
def RES (c : Dev nD) (b : Fin 2) (n : Fin 8192) (j : Fin 512) : EReal :=
  kernelOut (fun b n h d => a0 m c (ix4 b n h d)) (fun b n h d => a1 m c (ix4 b n h d))
    (fun b t h d => a2 m c (ix4 b t h d)) (fun b t d => a3 m c (ix3 b t d)) (fun b t h d => a4 m c (ix4 b t h d)) b n j

/-- What the body leaves in the output block, from the blocks it is handed, at a query and a lane. -/
theorem out_at (B0 : FVec Ideal S1x1x1024x256 .bf16) (B1 : FVec Ideal S1x1x8448x256 .bf16)
    (B2 : FVec Ideal S1x1x136x8448 .bf16) (y : S1x1024x128.Idx) :
    out0_3 (F := Ideal) B0 B1 B2 y
      = lateDivide (fun t => (∑ d : Fin 256, B1 (ix4 0 0 t d) * B0 (ix4 0 0 (y 1) d)) * scale2)
          (fun t => B2 (ix4 0 0 ⟨(y 2).val, by idx_bounds; omega⟩ t)) (fun t => B2 (ix4 0 0 128 t)) := by
  frame_out
  unfold k0_pay15 k0_pay14
  frame_out
  canon_tiles x g
  all_goals idx_vars x
  all_goals simp only [AttnRows.pay1_at, AttnRows.pay2_at, AttnRows.pay9_at, AttnRows.pay10_at, AttnRows.pay11_at,
    AttnRows.pay12_at, AttnRows.pay13_at, AttnRows.pay5_at, AttnRows.pay6_at, AttnRows.pay7_at, AttnRows.pay8_at,
    AttnRows.pay4_at]
  all_goals refine lateDivide_congr (fun _ _ => rfl) (fun d => ?_) (fun t => ?_) (fun _ => rfl)
  all_goals (pointwise; blk_ext)

/-- What a grid point leaves in its block of the result is the attention of the block's queries. -/
theorem point (c : Dev nD) (t : Fin cfg0.N) (y : S1x1024x128.Idx) :
    out0_3 (F := Ideal) (iblk m c 0 t) (iblk m c 1 t) (iblk m c 2 t) y
    = RES m c ⟨t.val / 32, lt_two t⟩ ⟨1024 * (t.val % 8) + (y 1).val, by idx_bounds; omega⟩
        ⟨128 * (t.val / 8 % 4) + (y 2).val, by idx_bounds; omega⟩ := by
  idx_vars y
  refine (out_at _ _ _ _).trans ?_
  refine (lateDivide_congr (blk1 m c t) (blk0 m c t _) (blk2 m c t _) (blk2_one m c t)).trans ?_
  simp only [sum_pack]
  unfold RES kernelOut scoreAt
  rw [show head ⟨128 * (t.val / 8 % 4) + (y2 : ℕ), by omega⟩ = ⟨t.val / 8 % 4, by omega⟩ from
      Fin.ext (by simp only [head]; omega),
    show lane ⟨128 * (t.val / 8 % 4) + (y2 : ℕ), by omega⟩ = y2 from Fin.ext (by simp only [lane]; omega)]
  rfl

/-- The kernel's result array: every query's attention. -/
theorem final (c : Dev nD) : (dats m 0 c).arrAt 3 (cfgs 0).N
    = (fun i : S2x8192x512.Idx => RES m c (i 0) (i 1) (i 2)) := by
  refine (dats m 0 c).arrAt_eq_of_covers 3 _ (by decide +kernel) fun t _ y => ?_
  have hidx := idx t
  blk_simp
  rw [after0_3]
  refine (point m c t y).trans ?_
  refine congr (congr (congrArg (RES m c) ?_) ?_) ?_ <;> refine Fin.ext ?_ <;> blk_simp [hidx] <;> idx_bounds <;> (try dsimp only) <;> omega

end Cert.Kernel2Ideal.AttnValue
-- ==== Proof.AttnRef.lean ====
/- The attention reference, stage by stage, read at a batch, a head, a query and a key. -/
module

public import proofs.«01_k».proof.Proof.AttnSpec
public import proofs.«01_k».proof.Proof.Gen.Reference2Ideal.Run
public import Idealize.ShloMosaic.Lib.Pipeline.ValueKit
public import Idealize.ShloMosaic.Lib.Tactic.CleanTypes

set_option maxRecDepth 16384

@[expose] public section
noncomputable section

open Idealize.ShloMosaic Idealize.ShloMosaic.TcCoe Idealize.SL.Sem Idealize.ShloMosaic.StableHlo
open Cert.Reference2Ideal Cert.Attn
open Cert.Reference2Ideal.Facts₀ Cert.Reference2Ideal.Facts

namespace Cert.Reference2Ideal.AttnRef

attribute [local instance] Cert.Reference2Ideal.Gen.facts

/-- The scaled scores, as the reference's operations. -/
def scores (qn : FVec Ideal S2x8192x4x128 .f32) (qr : FVec Ideal S2x8192x4x64 .f32) (kn : FVec Ideal S2x8448x4x128 .f32)
    (kr : FVec Ideal S2x8448x64 .f32) : FVec Ideal S2x4x8192x8448 .f32 :=
  mulf (addf (Host.dotGeneral dot_S2x8192x4x128_S2x8448x4x128_S2x4x8192x8448_3_3_1_1_02_02 none qn kn)
      (transpose S2x4x8192x8448 [0, 3, 2, 1]
        (Host.dotGeneral dot_S2x8448x64_S2x8192x4x64_S2x8448x8192x4_2_3_1_12_0_0 none kr qr)
        transposes_S2x8448x8192x4_S2x4x8192x8448_0_3_2_1))
    (broadcastInDim S2x4x8192x8448 ![] bcast_S_S2x4x8192x8448 (Host.rsqrt (constant S_ .f32 0x43400000#32)))

/-- The exponentials of the scores shifted by their greatest. -/
def powers (s : FVec Ideal S2x4x8192x8448 .f32) : FVec Ideal S2x4x8192x8448 .f32 :=
  Host.exp (subf s (broadcastInDim S2x4x8192x8448 ![0, 1, 2, 3] bcast_S2x4x8192x1_S2x4x8192x8448_0_1_2_3
    (broadcastInDim S2x4x8192x1 ![0, 1, 2] bcast_S2x4x8192_S2x4x8192x1_0_1_2
      (maximumf (broadcastInDim S2x4x8192 ![] bcast_S_S2x4x8192 (constant S_ .f32 0xFF800000#32))
        (Host.reduce FloatOps.maximumf s (constant S_ .f32 0xFF800000#32) reducesTo_S2x4x8192x8448_S2x4x8192_d3 h_S_)))))

/-- The weights: the exponentials over their sum. -/
def weights (p : FVec Ideal S2x4x8192x8448 .f32) : FVec Ideal S2x4x8192x8448 .f32 :=
  Host.divf p (broadcastInDim S2x4x8192x8448 ![0, 1, 2, 3] bcast_S2x4x8192x1_S2x4x8192x8448_0_1_2_3
    (broadcastInDim S2x4x8192x1 ![0, 1, 2] bcast_S2x4x8192_S2x4x8192x1_0_1_2
      (Host.reduceAdd p (constant S_ .f32 0x00000000#32) reducesTo_S2x4x8192x8448_S2x4x8192_d3 h_S_)))

/-- The weighted values, heads side by side. -/
def mixed (w : FVec Ideal S2x4x8192x8448 .f32) (v : FVec Ideal S2x8448x4x128 .f32) : FVec Ideal S2x8192x512 .f32 :=
  shapeCast S2x8192x512 (transpose S2x8192x4x128 [0, 3, 1, 2]
    (Host.dotGeneral dot_S2x8448x4x128_S2x4x8192x8448_S2x4x128x8192_1_3_3_2_02_01 none v w)
    transposes_S2x4x128x8192_S2x8192x4x128_0_3_1_2) shapeCasts_S2x8192x4x128_S2x8192x512

/-- The reciprocal root of the word of 192. -/
theorem rsqrt_eq : Ideal.rsqrt (Ideal.ofBits .f32 0x43400000#32) = scale := by
  have h : Ideal.ofBits .f32 0x43400000#32 = ((192 : ℝ) : EReal) := by
    simp [Ideal.ofBits, Ideal.ieee, -EReal.coe_mul]; norm_num
  rw [h, Ideal.rsqrt_coe, if_neg (by norm_num), if_neg (by norm_num)]
  rfl

/-- The plain lanes' products at a batch, a head, a query and a key. -/
theorem dotn_at (qn : FVec Ideal S2x8192x4x128 .f32) (kn : FVec Ideal S2x8448x4x128 .f32) (b : Fin 2) (h : Fin 4) (n : Fin 8192)
    (t : Fin 8448) :
    (Host.dotGeneral dot_S2x8192x4x128_S2x8448x4x128_S2x4x8192x8448_3_3_1_1_02_02 none qn kn : FVec Ideal S2x4x8192x8448 .f32) (ix4 b h n t)
      = ∑ d : Fin 128, qn (ix4 b n h d) * kn (ix4 b t h d) := by
  pointwise

/-- The rotary lanes' products at a batch, a key, a query and a head. -/
theorem dotr_at (kr : FVec Ideal S2x8448x64 .f32) (qr : FVec Ideal S2x8192x4x64 .f32) (b : Fin 2) (h : Fin 4) (n : Fin 8192)
    (t : Fin 8448) :
    (Host.dotGeneral dot_S2x8448x64_S2x8192x4x64_S2x8448x8192x4_2_3_1_12_0_0 none kr qr : FVec Ideal S2x8448x8192x4 .f32) (ix4 b t n h)
      = ∑ d : Fin 64, kr (ix3 b t d) * qr (ix4 b n h d) := by
  pointwise

/-- The rotary products transposed to the order of the scores. -/
theorem turn_at (x : FVec Ideal S2x8448x8192x4 .f32) (b : Fin 2) (h : Fin 4) (n : Fin 8192) (t : Fin 8448) :
    (transpose S2x4x8192x8448 [0, 3, 2, 1] x transposes_S2x8448x8192x4_S2x4x8192x8448_0_3_2_1 :
      FVec Ideal S2x4x8192x8448 .f32) (ix4 b h n t) = x (ix4 b t n h) := by
  pointwise

/-- The scale spread over the scores. -/
theorem spread_at (b : Fin 2) (h : Fin 4) (n : Fin 8192) (t : Fin 8448) :
    (broadcastInDim S2x4x8192x8448 ![] bcast_S_S2x4x8192x8448 (Host.rsqrt (constant (F := Ideal) S_ .f32 0x43400000#32)) :
      FVec Ideal S2x4x8192x8448 .f32) (ix4 b h n t) = scale := by
  refine Eq.trans ?_ rsqrt_eq
  pointwise

/-- The scaled scores at a batch, a head, a query and a key. -/
theorem scores_at (qn : FVec Ideal S2x8192x4x128 .f32) (qr : FVec Ideal S2x8192x4x64 .f32)
    (kn : FVec Ideal S2x8448x4x128 .f32) (kr : FVec Ideal S2x8448x64 .f32) (b : Fin 2) (h : Fin 4) (n : Fin 8192)
    (t : Fin 8448) :
    scores qn qr kn kr (ix4 b h n t)
      = score (fun d => qn (ix4 b n h d)) (fun d => kn (ix4 b t h d)) (fun d => qr (ix4 b n h d))
          (fun d => kr (ix3 b t d)) * scale := by
  unfold scores score
  rw [← dotn_at, ← dotr_at, ← turn_at (Host.dotGeneral _ none kr qr), ← spread_at b h n t]
  rfl

/-- The greatest score of a query. -/
theorem low_at (s : FVec Ideal S2x4x8192x8448 .f32) (b : Fin 2) (h : Fin 4) (n : Fin 8192) :
    (Host.reduce FloatOps.maximumf s (constant S_ .f32 0xFF800000#32) reducesTo_S2x4x8192x8448_S2x4x8192_d3 h_S_ : FVec Ideal S2x4x8192 .f32) (ix3 b h n)
      = top fun t => s (ix4 b h n t) := by
  unfold top cLow
  pointwise

/-- The exponentials of scores shifted by a given row of maxima. -/
theorem shift_at (s : FVec Ideal S2x4x8192 .f32) (y : FVec Ideal S2x4x8192x8448 .f32) (b : Fin 2) (h : Fin 4) (n : Fin 8192) (t : Fin 8448) :
  (Host.exp (subf y (broadcastInDim S2x4x8192x8448 ![0, 1, 2, 3] bcast_S2x4x8192x1_S2x4x8192x8448_0_1_2_3
    (broadcastInDim S2x4x8192x1 ![0, 1, 2] bcast_S2x4x8192_S2x4x8192x1_0_1_2
      (maximumf (broadcastInDim S2x4x8192 ![] bcast_S_S2x4x8192 (constant S_ .f32 0xFF800000#32))
        s)))) : FVec Ideal S2x4x8192x8448 .f32) (ix4 b h n t)
      = Ideal.exp (y (ix4 b h n t) - max cLow (s (ix3 b h n))) := by
  unfold cLow
  pointwise

/-- The exponentials at a batch, a head, a query and a key. -/
theorem powers_at (s : FVec Ideal S2x4x8192x8448 .f32) (b : Fin 2) (h : Fin 4) (n : Fin 8192) (t : Fin 8448) :
    powers s (ix4 b h n t)
      = Ideal.exp (s (ix4 b h n t) - max cLow (top fun t => s (ix4 b h n t))) := by
  unfold powers
  rw [shift_at, low_at]

/-- The weights at a batch, a head, a query and a key. -/
theorem weights_at (p : FVec Ideal S2x4x8192x8448 .f32) (b : Fin 2) (h : Fin 4) (n : Fin 8192) (t : Fin 8448) :
    weights p (ix4 b h n t) = Ideal.div (p (ix4 b h n t)) (∑ u : Fin 8448, p (ix4 b h n u)) := by
  pointwise [weights]

/-- The weighted values at a batch, a query and a column. -/
theorem mixed_at (w : FVec Ideal S2x4x8192x8448 .f32) (v : FVec Ideal S2x8448x4x128 .f32) (b : Fin 2) (n : Fin 8192)
    (j : Fin 512) :
    mixed w v (ix3 b n j) = ∑ t : Fin 8448, v (ix4 b t (head j) (lane j)) * w (ix4 b (head j) n t) := by
  pointwise [mixed, head, lane]

/-- The reference's result, from its arguments. -/
def result (qn : FVec Ideal S2x8192x4x128 .f32) (qr : FVec Ideal S2x8192x4x64 .f32) (kn : FVec Ideal S2x8448x4x128 .f32)
    (kr : FVec Ideal S2x8448x64 .f32) (v : FVec Ideal S2x8448x4x128 .f32) : FVec Ideal S2x8192x512 .f32 :=
  mixed (weights (powers (scores qn qr kn kr))) v

/-- The reference's result at a batch, a query and a column is the softmax of the scores on the values. -/
theorem result_at (qn : FVec Ideal S2x8192x4x128 .f32) (qr : FVec Ideal S2x8192x4x64 .f32)
    (kn : FVec Ideal S2x8448x4x128 .f32) (kr : FVec Ideal S2x8448x64 .f32) (v : FVec Ideal S2x8448x4x128 .f32) (b : Fin 2)
    (n : Fin 8192) (j : Fin 512) :
    result qn qr kn kr v (ix3 b n j)
      = referenceOut (fun b n h d => qn (ix4 b n h d)) (fun b n h d => qr (ix4 b n h d)) (fun b t h d => kn (ix4 b t h d))
          (fun b t d => kr (ix3 b t d)) (fun b t h d => v (ix4 b t h d)) b n j := by
  unfold result
  simp only [mixed_at, weights_at, powers_at, scores_at]
  rfl

end Cert.Reference2Ideal.AttnRef
-- ==== Proof.AttnClaims.lean ====
/- The claims about the attention call, from the two value modules and the generated runs. -/
module

public import proofs.«01_k».proof.Defs
public import proofs.«01_k».proof.Proof.AttnFinal
public import proofs.«01_k».proof.Proof.AttnRef
public import proofs.«01_k».proof.Proof.Gen.Kernel2.Frame
public import proofs.«01_k».proof.Proof.Gen.Pre_finite
public import Idealize.ShloMosaic.Lib.Quiescent
public import Idealize.ShloMosaic.Lib.ReduceAll

set_option maxRecDepth 16384

@[expose] public section
noncomputable section

open Idealize.ShloMosaic Idealize.ShloMosaic.TcCoe Idealize.SL.Sem Idealize.ShloMosaic.StableHlo Cert.Attn

namespace Cert.Proof.Attention

/-- An extended real whose absolute value compares below infinity is a real number. -/
theorem real_of_cmp (x : EReal) (h : Ideal.cmp .olt (max x (-x)) (Ideal.ofBits .f32 0x7F800000#32) = 1#1) :
    ∃ r : ℝ, x = r := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton Cert.Pre_finite.S_.Idx := ⟨fun a b => funext fun i => i.elim0⟩

/-- An array whose test of finiteness is one has a real number at every index. -/
theorem real_of_all {s : Shape} {axes : List (Fin s.rank)} (x : FVec Ideal s .f32)
    (hb : Cert.Pre_finite.S_.BroadcastsInDim s (![] : Fin 0 → Fin s.rank)) (hr : s.ReducesTo axes Cert.Pre_finite.S_)
    (hu : 0 < Cert.Pre_finite.S_.numel) (j : Cert.Pre_finite.S_.Idx)
    (h : Host.reduce IntOp.andi (cmpf .olt (Host.absf x) (broadcastInDim s ![] hb (constant Cert.Pre_finite.S_ .f32 0x7F800000#32)))
      (constantI Cert.Pre_finite.S_ 1 1#1) hr hu j = 1#1) (i : s.Idx) : ∃ r : ℝ, x i = r :=
  real_of_cmp (x i) (Host.reduce_andi_all _ _ hr hu j h i)

/-- Under the precondition the queries and the keys are real numbers. -/
theorem reals (q : FVec Ideal Cert.Pre_finite.S2x8192x4x128 .f32) (r : FVec Ideal Cert.Pre_finite.S2x8192x4x64 .f32)
    (k : FVec Ideal Cert.Pre_finite.S2x8448x4x128 .f32) (p : FVec Ideal Cert.Pre_finite.S2x8448x64 .f32)
    (v : FVec Ideal Cert.Pre_finite.S2x8448x4x128 .f32)
    (h : Cert.Pre_finite.fn (F := Ideal) q r k p v = fun _ => 1#1) :
    (∀ i, ∃ x : ℝ, q i = x) ∧ (∀ i, ∃ x : ℝ, r i = x) ∧ (∀ i, ∃ x : ℝ, k i = x) ∧ ∀ i, ∃ x : ℝ, p i = x := by
  have h0 := congrFun h (Shape.Idx.first Cert.Pre_finite.Gen.h_S_)
  unfold Cert.Pre_finite.fn Cert.Pre_finite.fn_part1 at h0
  obtain ⟨h3, hp⟩ := IntOp.andi_eq_one.1 h0
  obtain ⟨h2, hk⟩ := IntOp.andi_eq_one.1 h3
  obtain ⟨hq, hr⟩ := IntOp.andi_eq_one.1 h2
  exact ⟨real_of_all q _ _ _ _ hq, real_of_all r _ _ _ _ hr, real_of_all k _ _ _ _ hk, real_of_all p _ _ _ _ hp⟩

/-- The reference runs, keeps its arguments and leaves every counter at zero. -/
theorem quiescentReference : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩)
    (Cert.Reference2Ideal.Value.run m ρ)

/-- The same of memories that meet the precondition. -/
theorem quiescentReference_finite : Cert.quiescent_Reference2Ideal_pre_finite
    (hReference2Ideal := Cert.Reference2Ideal.Gen.facts) (hPre_finite := Cert.Pre_finite.Gen.facts) :=
  fun m ρ _ => quiescentReference m ρ trivial

/-- The scale is named once, with the value of its formula. -/
theorem preserves : Cert.preserves_Kernel2_Kernel2Ideal :=
  IdealRules.named_const.statement Cert.Kernel2Ideal.κ "scale_log2e" .f32 0x3DD53B95#32
    (((Real.sqrt 192)⁻¹ * (Real.log 2)⁻¹ : ℝ) : EReal) rfl

/-- Of finite queries and keys, the reference's result array is the kernel's attention. -/
theorem result_eq (q : FVec Ideal Cert.Reference2Ideal.S2x8192x4x128 .f32) (r : FVec Ideal Cert.Reference2Ideal.S2x8192x4x64 .f32)
    (k : FVec Ideal Cert.Reference2Ideal.S2x8448x4x128 .f32) (p : FVec Ideal Cert.Reference2Ideal.S2x8448x64 .f32)
    (v : FVec Ideal Cert.Reference2Ideal.S2x8448x4x128 .f32)
    (h : (∀ i, ∃ x : ℝ, q i = x) ∧ (∀ i, ∃ x : ℝ, r i = x) ∧ (∀ i, ∃ x : ℝ, k i = x) ∧ ∀ i, ∃ x : ℝ, p i = x) :
    Cert.Reference2Ideal.AttnRef.result q r k p v
      = fun i : Cert.Kernel2Ideal.S2x8192x512.Idx =>
        kernelOut (fun b n h d => q (ix4 b n h d)) (fun b n h d => r (ix4 b n h d)) (fun b t h d => k (ix4 b t h d))
          (fun b t d => p (ix3 b t d)) (fun b t h d => v (ix4 b t h d)) (i 0) (i 1) (i 2) := by
  funext i
  rw [eq_ix3 i]
  refine (Cert.Reference2Ideal.AttnRef.result_at q r k p v (i 0) (i 1) (i 2)).trans ?_
  exact (out_eq (fun b n h' d => h.1 _) (fun b n h' d => h.2.1 _) (fun b n h' d => h.2.2.1 _) (fun b n d => h.2.2.2 _) _ _ _ _).symm

/-- At the extended reals the kernel and the reference leave equal results. -/
theorem algebraic : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m ρ m' ρ' hpre hagree
  refine ⟨fun c => fun i : Cert.Kernel2Ideal.S2x8192x512.Idx =>
    Cert.Kernel2Ideal.AttnValue.RES m c (i 0) (i 1) (i 2), ?_, ?_⟩
  · exact (θ_run Cert.Kernel2Ideal.defs _ _).mono
      (fun _ h c => ⟨(h c).1.trans (Cert.Kernel2Ideal.AttnValue.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4⟩ := hagree c
    rw [h0, h1, h2, h3, h4]
    exact result_eq _ _ _ _ _ (reals _ _ _ _ _ (hpre c))

end Cert.Proof.Attention
-- ==== Proof.EvenSpec.lean ====
/- The rows of the even layer's closing arithmetic: the gated matrix-memory output and the group-normed RWKV output,
   as plain functions on the extended reals, and the two ways in which the means over groups of 64 are taken. -/
module

public import proofs.«01_k».proof.Proof.Spec
public import proofs.«01_k».proof.Proof.AttnSpec

set_option maxRecDepth 16384

@[expose] public section
noncomputable section

open Idealize.ShloMosaic

namespace Cert.Rows

/-- The number the mean over a group of 64 divides by (the word of 64). -/
def cGroup : EReal := Ideal.ofBits .f32 0x42800000#32
/-- The small constant under the root of the group norm. -/
def cGroupEps : EReal := Ideal.ofBits .f32 0x3A27C5AC#32

/-- One direction-summed matrix-memory output, normed per head, weighted and gated by a logistic. -/
def remembered (y hn g : Fin 512 → EReal) (k : Fin 512) : EReal := y k * headScale y k * hn k * sigm (g k)

/-- The group of 64 that column `k` lies in. -/
def grp (k : Fin 512) : Fin 8 := ⟨(k : ℕ) / 64, by omega⟩
/-- Lane `l` of group `h`. -/
def groupLane (h : Fin 8) (l : Fin 64) : Fin 512 := ⟨(h : ℕ) * 64 + l, by omega⟩

/-- The mean of a group. -/
def groupMean (y : Fin 512 → EReal) (h : Fin 8) : EReal := Ideal.div (∑ l, y (groupLane h l)) cGroup

/-- The mean square of a group about its mean. -/
def groupVar (y : Fin 512 → EReal) (h : Fin 8) : EReal :=
  Ideal.div (∑ l, (y (groupLane h l) - groupMean y h) * (y (groupLane h l) - groupMean y h)) cGroup

/-- The group norm of a row, weighted and shifted, with the bonus added and the gate applied. -/
def grouped (y w s bonus gate : Fin 512 → EReal) (k : Fin 512) : EReal :=
  ((y k - groupMean y (grp k)) * Ideal.rsqrt (groupVar y (grp k) + cGroupEps) * w k + s k + bonus k) * gate k

/-- What the even layer's closing call leaves at a batch, a latent token and a column, from its arrays: all but the
    residual are read 256 tokens further on, past the context tokens. -/
def evenEnd (x : Fin 2 → Fin 8192 → Fin 1024 → EReal) (hm : Fin 2 → Fin 2 → Fin 8448 → Fin 512 → EReal)
    (p : Fin 2 → Fin 8448 → Fin 1024 → EReal) (y : Fin 2 → Fin 2 → Fin 8448 → Fin 512 → EReal)
    (bg : Fin 2 → Fin 8448 → Fin 1024 → EReal) (hn lw lb : Fin 512 → EReal)
    (w0 : Fin 1024 → Fin 1024 → EReal) (w1 : Fin 1024 → Fin 4096 → EReal) (w2 : Fin 4096 → Fin 1024 → EReal)
    (ng : Fin 4 → Fin 1024 → EReal) (ada : Fin 2 → Fin 6144 → EReal) (b : Fin 2) (n : Fin 8192) (j : Fin 1024) :
    EReal :=
  layerEnd (x b n)
    (project
      (remembered (fun k => hm 0 b ⟨256 + n, by omega⟩ k + hm 1 b ⟨256 + n, by omega⟩ k) hn
        (fun k => p b ⟨256 + n, by omega⟩ ⟨512 + k, by omega⟩))
      (grouped (fun k => y 0 b ⟨256 + n, by omega⟩ k + y 1 b ⟨256 + n, by omega⟩ k) lw lb
        (fun k => bg b ⟨256 + n, by omega⟩ ⟨k, by omega⟩) (fun k => bg b ⟨256 + n, by omega⟩ ⟨512 + k, by omega⟩)) w0)
    (fun l => ada b ⟨2048 + l, by omega⟩) (fun l => ada b ⟨3072 + l, by omega⟩)
    (fun l => ada b ⟨4096 + l, by omega⟩) (fun l => ada b ⟨5120 + l, by omega⟩)
    (ng 1) (ng 2) (ng 3) w1 w2 j

/-- The sum of the half of a slice of 128 lanes that lane `l` lies in, as the kernel takes it: a masked sum for the
    lower half, the rest of the whole sum for the upper one. -/
def halfSum (q : Fin 128 → BitVec 1) (f : Fin 128 → EReal) (l : Fin 128) : EReal :=
  Scalar.select (q l) (∑ i, Scalar.select (q i) (f i) 0) (∑ i, f i - ∑ i, Scalar.select (q i) (f i) 0)

/-- The mask of the lower half of 128 lanes. -/
def lower (l : Fin 128) : BitVec 1 := if (l : ℕ) < 64 then 1#1 else 0#1

/-- Column `k`'s lane in its slice of 128. -/
def laneOf (k : Fin 512) : Fin 128 := ⟨(k : ℕ) % 128, by omega⟩

/-- Four rows of 128 laid side by side. -/
def beside (a b c d : Fin 128 → EReal) (k : Fin 512) : EReal :=
  if h0 : (k : ℕ) < 128 then a ⟨k, h0⟩
  else if h1 : (k : ℕ) - 128 < 128 then b ⟨(k : ℕ) - 128, h1⟩
  else if h2 : (k : ℕ) - 128 - 128 < 128 then c ⟨(k : ℕ) - 128 - 128, h2⟩
  else d ⟨(k : ℕ) - 128 - 128 - 128, by omega⟩

/-- The mean over a group of 64 as the kernel takes it. -/
def halfMean (y : Fin 512 → EReal) (k : Fin 512) : EReal :=
  halfSum lower (fun i => y (headLane k i)) (laneOf k) * Ideal.ofBits .f32 0x3C800000#32

/-- The kernel's group norm of a row, weighted and shifted, with the bonus added and the gate applied. -/
def halved (y w s bonus gate : Fin 512 → EReal) (k : Fin 512) : EReal :=
  ((y k - halfMean y k)
      * Ideal.rsqrt (halfMean (fun j => (y j - halfMean y j) * (y j - halfMean y j)) k + cGroupEps)
      * w k + s k + bonus k) * gate k

/-- The half sums of the four slices of a row, laid side by side, are the half sum of each column's slice. -/
theorem beside_halfSum (q : Fin 128 → BitVec 1) (y : Fin 512 → EReal) (k : Fin 512) :
    beside (halfSum q fun i => y ⟨i, by omega⟩) (halfSum q fun i => y ⟨128 + i, by omega⟩)
        (halfSum q fun i => y ⟨256 + i, by omega⟩) (halfSum q fun i => y ⟨384 + i, by omega⟩) k
      = halfSum q (fun i => y (headLane k i)) (laneOf k) := by
  have hk := k.isLt
  unfold beside
  by_cases h0 : (k : ℕ) < 128
  · rw [dif_pos h0]
    refine congrArg₂ (halfSum q) (funext fun i => congrArg y (Fin.ext ?_)) (Fin.ext ?_) <;>
      simp only [headLane, laneOf] <;> omega
  by_cases h1 : (k : ℕ) - 128 < 128
  · rw [dif_neg h0, dif_pos h1]
    refine congrArg₂ (halfSum q) (funext fun i => congrArg y (Fin.ext ?_)) (Fin.ext ?_) <;>
      simp only [headLane, laneOf] <;> omega
  by_cases h2 : (k : ℕ) - 128 - 128 < 128
  · rw [dif_neg h0, dif_neg h1, dif_pos h2]
    refine congrArg₂ (halfSum q) (funext fun i => congrArg y (Fin.ext ?_)) (Fin.ext ?_) <;>
      simp only [headLane, laneOf] <;> omega
  · rw [dif_neg h0, dif_neg h1, dif_neg h2]
    refine congrArg₂ (halfSum q) (funext fun i => congrArg y (Fin.ext ?_)) (Fin.ext ?_) <;>
      simp only [headLane, laneOf] <;> omega

/-- The word `0x42800000` is 64. -/
theorem cGroup_eq : cGroup = ((64 : ℝ) : EReal) := by
  simp [cGroup, Ideal.ofBits, Ideal.ieee, -EReal.coe_mul]; norm_num

/-- The word `0x3C800000` is 1/64. -/
theorem inv64_eq : Ideal.ofBits .f32 0x3C800000#32 = ((1 / 64 : ℝ) : EReal) := by
  simp [Ideal.ofBits, Ideal.ieee, -EReal.coe_mul]; norm_num

/-- Multiplying by the word of 1/64 is dividing by the word of 64. -/
theorem mul_inv_group (x : EReal) : x * Ideal.ofBits .f32 0x3C800000#32 = Ideal.div x cGroup := by
  rw [cGroup_eq, inv64_eq, Ideal.div_coe (by norm_num)]

/-- A sum over 128 lanes is the sum over its two halves. -/
theorem sum_halves (f : Fin 128 → EReal) :
    ∑ i, f i = (∑ l : Fin 64, f ⟨l, by omega⟩) + ∑ l : Fin 64, f ⟨64 + l, by omega⟩ := by
  rw [Fin.sum_univ_tiles 2 64 rfl f, Fin.sum_univ_two]
  refine congrArg₂ (· + ·) ?_ ?_ <;> exact Finset.sum_congr rfl fun l _ => congrArg f (Fin.ext (by simp))

/-- The masked sum is the sum of the lower half. -/
theorem sum_lower (f : Fin 128 → EReal) :
    ∑ i, Scalar.select (lower i) (f i) 0 = ∑ l : Fin 64, f ⟨l, by omega⟩ := by
  rw [sum_halves]
  have h0 : ∀ l : Fin 64, Scalar.select (lower ⟨l, by omega⟩) (f ⟨l, by omega⟩) 0 = f ⟨l, by omega⟩ := fun l => by
    simp [lower, Scalar.select]
  have h1 : ∀ l : Fin 64, Scalar.select (lower ⟨64 + l, by omega⟩) (f ⟨64 + l, by omega⟩) 0 = (0 : EReal) := fun l => by
    simp [lower, Scalar.select]
  simp only [h0, h1, Finset.sum_const_zero, add_zero]

/-- A sum of real numbers is real. -/
theorem sum_is_real {n : ℕ} (f : Fin n → EReal) (h : ∀ i, ∃ r : ℝ, f i = r) : ∃ r : ℝ, ∑ i, f i = r := by
  choose g hg using h
  exact ⟨∑ i, g i, by simp only [hg, Cert.Attn.coe_sum]⟩

/-- On real rows the kernel's mean over a group is the mean of the group. -/
theorem halfMean_eq (y : Fin 512 → EReal) (h : ∀ k, ∃ r : ℝ, y k = r) (k : Fin 512) :
    halfMean y k = groupMean y (grp k) := by
  unfold halfMean groupMean halfSum
  rw [mul_inv_group, sum_lower]
  refine congrArg (Ideal.div · cGroup) ?_
  by_cases hk : (k : ℕ) % 128 < 64
  · rw [show lower (laneOf k) = 1#1 by simp [lower, laneOf, hk], Scalar.select, if_pos (by decide)]
    refine Finset.sum_congr rfl fun l _ => congrArg y (Fin.ext ?_)
    simp only [headLane, groupLane, grp]
    omega
  · rw [show lower (laneOf k) = 0#1 by simp [lower, laneOf, hk], Scalar.select, if_neg (by decide), sum_halves]
    obtain ⟨a, ha⟩ := sum_is_real (fun l : Fin 64 => y (headLane k ⟨l, by omega⟩)) fun l => h _
    obtain ⟨b, hb⟩ := sum_is_real (fun l : Fin 64 => y (headLane k ⟨64 + l, by omega⟩)) fun l => h _
    refine Eq.trans (b := ∑ l : Fin 64, y (headLane k ⟨64 + l, by omega⟩)) ?_ ?_
    · rw [ha, hb]
      show (a : EReal) + b - a = b
      rw [← EReal.coe_add, ← EReal.coe_sub, add_sub_cancel_left]
    · refine Finset.sum_congr rfl fun l _ => congrArg y (Fin.ext ?_)
      simp only [headLane, groupLane, grp]
      omega

/-- The mean of a real row over a group is real. -/
theorem groupMean_real (y : Fin 512 → EReal) (h : ∀ k, ∃ r : ℝ, y k = r) (g : Fin 8) : ∃ r : ℝ, groupMean y g = r := by
  obtain ⟨a, ha⟩ := sum_is_real (fun l : Fin 64 => y (groupLane g l)) fun l => h _
  exact ⟨a * (1 / 64), by rw [groupMean, ← mul_inv_group, ha, inv64_eq, EReal.coe_mul]⟩

/-- On real rows the kernel's group norm is the group norm. -/
theorem halved_eq (y w s bonus gate : Fin 512 → EReal) (h : ∀ k, ∃ r : ℝ, y k = r) :
    halved y w s bonus gate = grouped y w s bonus gate := by
  funext k
  unfold halved grouped
  have hm : halfMean y = fun j => groupMean y (grp j) := funext fun j => halfMean_eq y h j
  rw [hm, halfMean_eq]
  · refine congrArg (fun z => ((y k - groupMean y (grp k)) * Ideal.rsqrt (z + cGroupEps) * w k + s k + bonus k) * gate k) ?_
    unfold groupVar
    refine congrArg (Ideal.div · cGroup) (Finset.sum_congr rfl fun l _ => ?_)
    dsimp only
    rw [show grp (groupLane (grp k) l) = grp k from Fin.ext (by simp only [grp, groupLane]; omega)]
  · intro j
    obtain ⟨a, ha⟩ := h j
    obtain ⟨b, hb⟩ := groupMean_real y h (grp j)
    refine ⟨(a - b) * (a - b), ?_⟩
    dsimp only
    rw [ha, hb, EReal.coe_mul, EReal.coe_sub]

/-- The gated row depends on its inputs only through their entries. -/
theorem remembered_congr {Y Y' HN HN' Q Q' : Fin 512 → EReal} (hy : ∀ k, Y k = Y' k) (hn : ∀ k, HN k = HN' k)
    (hq : ∀ k, Q k = Q' k) (k : Fin 512) : remembered Y HN Q k = remembered Y' HN' Q' k := by
  obtain rfl := funext hy; obtain rfl := funext hn; obtain rfl := funext hq; rfl

/-- The kernel's group-normed row depends on its inputs only through their entries. -/
theorem halved_congr {Y Y' W W' S S' B B' G G' : Fin 512 → EReal} (hy : ∀ k, Y k = Y' k) (hw : ∀ k, W k = W' k)
    (hs : ∀ k, S k = S' k) (hb : ∀ k, B k = B' k) (hg : ∀ k, G k = G' k) (k : Fin 512) :
    halved Y W S B G k = halved Y' W' S' B' G' k := by
  obtain rfl := funext hy; obtain rfl := funext hw; obtain rfl := funext hs; obtain rfl := funext hb
  obtain rfl := funext hg; rfl

end Cert.Rows
-- ==== Proof.EvenRows.lean ====
/- The even layer's kernel, payload by payload: what each value the body computes is at a row and a column. -/
module

public import proofs.«01_k».proof.Proof.EvenSpec
public import proofs.«01_k».proof.Proof.Gen.Kernel3Ideal.Skeleton
public import Idealize.ShloMosaic.Lib.Pipeline.ValueKit

set_option maxRecDepth 16384

@[expose] public section
noncomputable section

open Idealize.ShloMosaic Idealize.ShloMosaic.TcCoe Idealize.SL.Sem
open Cert.Kernel3Ideal Cert.Kernel3Ideal.Gen Cert.Rows

namespace Cert.Kernel3Ideal.EvenRows

/-- The mask of the lower half of the lanes. -/
theorem mask_at (l : Fin 128) : k0_pay6 (ix2 0 l) = lower l := by
  pointwise [k0_pay6]
  revert l
  unfold lower
  decide

/-- The same mask, taken a second time. -/
theorem mask'_at (l : Fin 128) : k0_pay13 (ix2 0 l) = lower l := mask_at l

/-- The sum of the two directions of the matrix memory, normed per head and weighted. -/
theorem pay2_at (o0 o1 : FVec Ideal S1x1x512x512 .f32) (hn : FVec Ideal S1x512 .f32) (r k : Fin 512) :
    k0_pay2 (F := Ideal) o0 o1 hn (ix2 r k)
      = (o0 (ix4 0 0 r k) + o1 (ix4 0 0 r k))
          * headScale (fun j => o0 (ix4 0 0 r j) + o1 (ix4 0 0 r j)) k * hn (ix2 0 k) := by
  pointwise [k0_pay2]
  refine Ideal.mul_congr (Ideal.mul_congr rfl ?_) rfl
  rw [mul_inv_head]
  refine congrArg (fun z => Ideal.rsqrt (Ideal.div z cHead + cEps)) ?_
  have hk := k.isLt
  by_cases h0 : (k : ℕ) < 128
  · rw [dif_pos h0]
    refine Finset.sum_congr rfl fun l _ => ?_
    rw [show headLane k l = ⟨(l : ℕ), by omega⟩ from Fin.ext (by simp only [headLane]; omega)]
  by_cases h1 : (k : ℕ) - 128 < 128
  · rw [dif_neg h0, dif_pos h1]
    refine Finset.sum_congr rfl fun l _ => ?_
    rw [show headLane k l = ⟨128 + (l : ℕ), by omega⟩ from Fin.ext (by simp only [headLane]; omega)]
  by_cases h2 : (k : ℕ) - 128 - 128 < 128
  · rw [dif_neg h0, dif_neg h1, dif_pos h2]
    refine Finset.sum_congr rfl fun l _ => ?_
    rw [show headLane k l = ⟨256 + (l : ℕ), by omega⟩ from Fin.ext (by simp only [headLane]; omega)]
  · rw [dif_neg h0, dif_neg h1, dif_neg h2]
    refine Finset.sum_congr rfl fun l _ => ?_
    rw [show headLane k l = ⟨384 + (l : ℕ), by omega⟩ from Fin.ext (by simp only [headLane]; omega)]

/-- The gate block, its unit axis dropped. -/
theorem pay3_at (v : FVec Ideal S1x512x512 .bf16) (r k : Fin 512) :
    k0_pay3 (F := Ideal) v (ix2 r k) = v (ix3 0 r k) := by
  pointwise! [k0_pay3]

/-- The logistic gate applied. -/
theorem pay4_at (y : FVec Ideal S512x512 .f32) (g : FVec Ideal S512x512 .bf16) (r k : Fin 512) :
    k0_pay4 (F := Ideal) y g (ix2 r k) = y (ix2 r k) * sigm (g (ix2 r k)) := by
  pointwise [k0_pay4]
  simp only [zero_sub]
  rfl

/-- The sum of the two directions of the recurrence. -/
theorem pay5_at (o0 o1 : FVec Ideal S1x1x512x512 .f32) (r k : Fin 512) :
    k0_pay5 (F := Ideal) o0 o1 (ix2 r k) = o0 (ix4 0 0 r k) + o1 (ix4 0 0 r k) := by
  pointwise! [k0_pay5]

/-- The half sums of the first slice. -/
theorem pay7_at (o0 o1 : FVec Ideal S1x1x512x512 .f32) (r : Fin 512) (l : Fin 128) :
    k0_pay7 (F := Ideal) o0 o1 (ix2 r l)
      = halfSum (fun i => k0_pay6 (ix2 0 i)) (fun i => k0_pay5 (F := Ideal) o0 o1 (ix2 r ⟨i, by omega⟩)) l := by
  generalize hq : (k0_pay6 : IVec S1x128 1) = q
  unfold k0_pay7
  rw [hq]
  generalize k0_pay5 (F := Ideal) o0 o1 = v
  pointwise! [halfSum]

/-- The second slice. -/
theorem pay8_at (o0 o1 : FVec Ideal S1x1x512x512 .f32) (r : Fin 512) (l : Fin 128) :
    k0_pay8 (F := Ideal) o0 o1 (ix2 r l) = k0_pay5 (F := Ideal) o0 o1 (ix2 r ⟨128 + l, by omega⟩) := by
  unfold k0_pay8
  generalize k0_pay5 (F := Ideal) o0 o1 = v
  pointwise!

/-- The sum of the second slice. -/
theorem pay9_at (o0 o1 : FVec Ideal S1x1x512x512 .f32) (r : Fin 512) :
    k0_pay9 (F := Ideal) o0 o1 (ix2 r 0) = ∑ l : Fin 128, k0_pay8 (F := Ideal) o0 o1 (ix2 r l) := by
  unfold k0_pay9
  generalize k0_pay8 (F := Ideal) o0 o1 = v
  pointwise!

/-- The masked sum of the second slice. -/
theorem pay10_at (o0 o1 : FVec Ideal S1x1x512x512 .f32) (r : Fin 512) :
    k0_pay10 (F := Ideal) o0 o1 (ix1 r)
      = ∑ l : Fin 128, Scalar.select (k0_pay6 (ix2 0 l)) (k0_pay8 (F := Ideal) o0 o1 (ix2 r l)) 0 := by
  generalize hq : (k0_pay6 : IVec S1x128 1) = q
  unfold k0_pay10
  rw [hq]
  generalize k0_pay8 (F := Ideal) o0 o1 = v
  pointwise!

/-- The first slice's half sums of a row. -/
theorem pay15_at (q : IVec S1x128 1) (v : FVec Ideal S512x128 .f32) (r : Fin 512) (l : Fin 128) :
    k0_pay15 (F := Ideal) q v (ix2 r l) = halfSum (fun i => q (ix2 0 i)) (fun i => v (ix2 r i)) l := by
  pointwise! [k0_pay15, halfSum]

/-- The second slice's half sums of a row. -/
theorem pay16_at (v : FVec Ideal S512x512 .f32) (q : IVec S1x128 1) (r : Fin 512) (l : Fin 128) :
    k0_pay16 (F := Ideal) v q (ix2 r l) = halfSum (fun i => q (ix2 0 i)) (fun i => v (ix2 r ⟨128 + i, by omega⟩)) l := by
  pointwise! [k0_pay16, halfSum]

/-- The third slice's half sums of a row. -/
theorem pay17_at (v : FVec Ideal S512x512 .f32) (q : IVec S1x128 1) (r : Fin 512) (l : Fin 128) :
    k0_pay17 (F := Ideal) v q (ix2 r l) = halfSum (fun i => q (ix2 0 i)) (fun i => v (ix2 r ⟨256 + i, by omega⟩)) l := by
  pointwise! [k0_pay17, halfSum]

/-- The fourth slice. -/
theorem pay18_at (v : FVec Ideal S512x512 .f32) (r : Fin 512) (l : Fin 128) :
    k0_pay18 (F := Ideal) v (ix2 r l) = v (ix2 r ⟨384 + l, by omega⟩) := by
  pointwise! [k0_pay18]

/-- The first slice of the squares. -/
theorem pay14_at (y : FVec Ideal S512x512 .f32) (q : IVec S1x128 1) (a : FVec Ideal S512x128 .f32)
    (b : FVec Ideal S512x1 .f32) (d : FVec Ideal S512 .f32) (r : Fin 512) (l : Fin 128) :
    k0_pay14 (F := Ideal) y q a b d (ix2 r l) = k0_pay12 (F := Ideal) y q a b d (ix2 r ⟨l, by omega⟩) := by
  unfold k0_pay14
  generalize k0_pay12 (F := Ideal) y q a b d = v
  pointwise!

/-- The squares. -/
theorem pay12_at (y : FVec Ideal S512x512 .f32) (q : IVec S1x128 1) (a : FVec Ideal S512x128 .f32)
    (b : FVec Ideal S512x1 .f32) (d : FVec Ideal S512 .f32) (r k : Fin 512) :
    k0_pay12 (F := Ideal) y q a b d (ix2 r k)
      = k0_pay11 (F := Ideal) y q a b d (ix2 r k) * k0_pay11 (F := Ideal) y q a b d (ix2 r k) := by
  unfold k0_pay12
  generalize k0_pay11 (F := Ideal) y q a b d = v
  pointwise!

/-- The residual block, its unit axis dropped. -/
theorem pay20_at (v : FVec Ideal S1x512x1024 .f32) (r : Fin 512) (k : Fin 1024) :
    k0_pay20 (F := Ideal) v (ix2 r k) = v (ix3 0 r k) := by
  pointwise! [k0_pay20]

/-- The gated residual after the mixer: the row times the output projection, normed. -/
theorem pay21_at (v x : FVec Ideal S512x1024 .f32) (ga : FVec Ideal S1x1x1x1x1024 .f32) (w : FVec Ideal S1x1024x1024 .bf16)
    (g : FVec Ideal S1x1x1024 .f32) (r : Fin 512) (k : Fin 1024) :
    k0_pay21 (F := Ideal) v x ga w g (ix2 r k)
      = resid (fun j => x (ix2 r j)) (fun j => ga (ix5 0 0 0 0 j))
          (rms (fun j => ∑ l : Fin 1024, v (ix2 r l) * w (ix3 0 l j)) (fun j => g (ix3 0 0 j))) k := by
  pointwise! [k0_pay21, resid, rms, rmsScale, cWidth, cEps]

/-- The norm of that. -/
theorem pay22_at (v x : FVec Ideal S512x1024 .f32) (ga : FVec Ideal S1x1x1x1x1024 .f32) (w : FVec Ideal S1x1024x1024 .bf16)
    (g g2 : FVec Ideal S1x1x1024 .f32) (r : Fin 512) (k : Fin 1024) :
    k0_pay22 (F := Ideal) v x ga w g g2 (ix2 r k)
      = rms (fun j => k0_pay21 (F := Ideal) v x ga w g (ix2 r j)) (fun j => g2 (ix3 0 0 j)) k := by
  unfold k0_pay22
  generalize k0_pay21 (F := Ideal) v x ga w g = v
  pointwise! [rms, rmsScale, cWidth, cEps]

/-- The modulated row. -/
theorem pay23_at (v : FVec Ideal S512x1024 .f32) (sc sh : FVec Ideal S1x1x1x1x1024 .f32) (r : Fin 512) (k : Fin 1024) :
    k0_pay23 (F := Ideal) v sc sh (ix2 r k) = v (ix2 r k) * (1 + sc (ix5 0 0 0 0 k)) + sh (ix5 0 0 0 0 k) := by
  pointwise! [k0_pay23]

/-- A chunk of hidden units. -/
theorem pay24_at (v : FVec Ideal S512x1024 .f32) (sc sh : FVec Ideal S1x1x1x1x1024 .f32) (w : FVec Ideal S1x1024x1024 .bf16)
    (r : Fin 512) (k : Fin 1024) :
    k0_pay24 (F := Ideal) v sc sh w (ix2 r k)
      = hiddenUnit (fun j => k0_pay23 (F := Ideal) v sc sh (ix2 r j)) (fun j => w (ix3 0 j k)) := by
  unfold k0_pay24
  generalize k0_pay23 (F := Ideal) v sc sh = v
  pointwise! [hiddenUnit]

/-- The second chunk of hidden units. -/
theorem pay25_at (v : FVec Ideal S512x1024 .f32) (sc sh : FVec Ideal S1x1x1x1x1024 .f32) (w : FVec Ideal S1x1024x1024 .bf16)
    (r : Fin 512) (k : Fin 1024) :
    k0_pay25 (F := Ideal) v sc sh w (ix2 r k)
      = hiddenUnit (fun j => k0_pay23 (F := Ideal) v sc sh (ix2 r j)) (fun j => w (ix3 0 j k)) := pay24_at v sc sh w r k

/-- The third chunk of hidden units. -/
theorem pay26_at (v : FVec Ideal S512x1024 .f32) (sc sh : FVec Ideal S1x1x1x1x1024 .f32) (w : FVec Ideal S1x1024x1024 .bf16)
    (r : Fin 512) (k : Fin 1024) :
    k0_pay26 (F := Ideal) v sc sh w (ix2 r k)
      = hiddenUnit (fun j => k0_pay23 (F := Ideal) v sc sh (ix2 r j)) (fun j => w (ix3 0 j k)) := pay24_at v sc sh w r k

/-- The fourth chunk of hidden units. -/
theorem pay27_at (v : FVec Ideal S512x1024 .f32) (sc sh : FVec Ideal S1x1x1x1x1024 .f32) (w : FVec Ideal S1x1024x1024 .bf16)
    (r : Fin 512) (k : Fin 1024) :
    k0_pay27 (F := Ideal) v sc sh w (ix2 r k)
      = hiddenUnit (fun j => k0_pay23 (F := Ideal) v sc sh (ix2 r j)) (fun j => w (ix3 0 j k)) := pay24_at v sc sh w r k

/-- The four chunks of the feed-forward block, added. -/
theorem pay28_at (u0 u1 u2 u3 : FVec Ideal S512x1024 .f32) (d0 d1 d2 d3 : FVec Ideal S1x1024x1024 .bf16) (r : Fin 512)
    (k : Fin 1024) :
    k0_pay28 (F := Ideal) u0 u1 u2 u3 d0 d1 d2 d3 (ix2 r k)
      = (∑ l : Fin 1024, u0 (ix2 r l) * u0 (ix2 r l) * d0 (ix3 0 l k))
        + (∑ l : Fin 1024, u1 (ix2 r l) * u1 (ix2 r l) * d1 (ix3 0 l k))
        + (∑ l : Fin 1024, u2 (ix2 r l) * u2 (ix2 r l) * d2 (ix3 0 l k))
        + ∑ l : Fin 1024, u3 (ix2 r l) * u3 (ix2 r l) * d3 (ix3 0 l k) := by
  pointwise! [k0_pay28]

/-- The mean square of that. -/
theorem pay31_at (u0 u1 u2 u3 : FVec Ideal S512x1024 .f32) (d0 d1 d2 d3 : FVec Ideal S1x1024x1024 .bf16) (r : Fin 512) :
    k0_pay31 (F := Ideal) u0 u1 u2 u3 d0 d1 d2 d3 (ix2 r 0)
      = Ideal.div (∑ k : Fin 1024, k0_pay28 (F := Ideal) u0 u1 u2 u3 d0 d1 d2 d3 (ix2 r k)
          * k0_pay28 (F := Ideal) u0 u1 u2 u3 d0 d1 d2 d3 (ix2 r k)) cWidth := by
  unfold k0_pay31
  generalize k0_pay28 (F := Ideal) u0 u1 u2 u3 d0 d1 d2 d3 = v
  pointwise! [cWidth]

/-- The second gate, its unit axes dropped. -/
theorem pay29_at (v : FVec Ideal S1x1x1x1x1024 .f32) (k : Fin 1024) :
    k0_pay29 (F := Ideal) v (ix2 0 k) = v (ix5 0 0 0 0 k) := by
  pointwise! [k0_pay29]

/-- The last norm's weights, a unit axis dropped. -/
theorem pay30_at (v : FVec Ideal S1x1x1024 .f32) (k : Fin 1024) :
    k0_pay30 (F := Ideal) v (ix2 0 k) = v (ix3 0 0 k) := by
  pointwise! [k0_pay30]

/-- The small constant under the last root. -/
theorem pay32_at (r : Fin 512) : k0_pay32 (F := Ideal) (ix2 r 0) = cEps := by
  pointwise! [k0_pay32, cEps]

/-- The norm of the feed-forward block and the last gated residual. -/
theorem pay1_at (x1 a : FVec Ideal S512x1024 .f32) (gm g : FVec Ideal S1x1024 .f32) (ms ep : FVec Ideal S512x1 .f32)
    (b : Fin 1) (r : Fin 512) (k : Fin 1024) :
    k0_pay1 (F := Ideal) x1 a gm g ms ep (ix3 b r k)
      = x1 (ix2 r k) + gm (ix2 0 k) * (a (ix2 r k) * Ideal.rsqrt (ms (ix2 r 0) + ep (ix2 r 0)) * g (ix2 0 k)) := by
  pointwise! [k0_pay1]

/-- The row less the four slices' half sums over 64. -/
theorem pay11_at (y : FVec Ideal S512x512 .f32) (q : IVec S1x128 1) (a : FVec Ideal S512x128 .f32)
    (b : FVec Ideal S512x1 .f32) (d : FVec Ideal S512 .f32) (r k : Fin 512) :
    k0_pay11 (F := Ideal) y q a b d (ix2 r k)
      = y (ix2 r k)
        - beside (fun l => a (ix2 r l))
            (fun l => Scalar.select (q (ix2 0 l)) (d (ix1 r)) (b (ix2 r 0) - d (ix1 r)))
            (halfSum (fun i => q (ix2 0 i)) fun i => y (ix2 r ⟨256 + i, by omega⟩))
            (halfSum (fun i => q (ix2 0 i)) fun i => y (ix2 r ⟨384 + i, by omega⟩)) k
          * Ideal.ofBits .f32 0x3C800000#32 := by
  pointwise! [k0_pay11, beside, halfSum]

/-- The mixer's row: the gated matrix memory beside the group norm, shifted, with its bonus and its gate. -/
theorem pay19_at (m y : FVec Ideal S512x512 .f32) (q : IVec S1x128 1) (a b d e : FVec Ideal S512x128 .f32)
    (w s : FVec Ideal S1x512 .f32) (bo ga : FVec Ideal S1x512x512 .bf16) (r : Fin 512) (k : Fin 1024) :
    k0_pay19 (F := Ideal) m y q a b d e w s bo ga (ix2 r k)
      = if h : (k : ℕ) < 512 then m (ix2 r ⟨k, h⟩)
        else (y (ix2 r ⟨(k : ℕ) - 512, by omega⟩)
            * Ideal.rsqrt (beside (fun l => a (ix2 r l)) (fun l => b (ix2 r l)) (fun l => d (ix2 r l))
                (halfSum (fun i => q (ix2 0 i)) fun i => e (ix2 r i)) ⟨(k : ℕ) - 512, by omega⟩
              * Ideal.ofBits .f32 0x3C800000#32 + cGroupEps)
            * w (ix2 0 ⟨(k : ℕ) - 512, by omega⟩) + s (ix2 0 ⟨(k : ℕ) - 512, by omega⟩)
            + bo (ix3 0 r ⟨(k : ℕ) - 512, by omega⟩)) * ga (ix3 0 r ⟨(k : ℕ) - 512, by omega⟩) := by
  pointwise! [k0_pay19, beside, halfSum, cGroupEps]

end Cert.Kernel3Ideal.EvenRows
-- ==== Proof.EvenOut.lean ====
/- The even layer's kernel: what its body leaves in the output block, from the blocks it is handed. -/
module

public import proofs.«01_k».proof.Proof.EvenRows
public import proofs.«01_k».proof.Proof.Gen.Kernel3Ideal.Frame

set_option maxRecDepth 16384

@[expose] public section
noncomputable section

open Idealize.ShloMosaic Idealize.ShloMosaic.TcCoe Idealize.SL.Sem
open Cert.Kernel3Ideal Cert.Kernel3Ideal.Gen Cert.Rows

namespace Cert.Kernel3Ideal.EvenRows

/-- The first direction of a block. -/
theorem ld0 (x : S2x1x512x512.Idx → Elt Ideal .f32) (r k : Fin 512) :
    (View.ld (Val := Elt Ideal) (e' := .f32) x r0_0 : FVec Ideal S1x1x512x512 .f32) (ix4 0 0 r k) = x (ix4 0 0 r k) :=
  View.ld_unit_apply_of _ _ _ _ _ _ fun a => by fin_cases a <;> simp

/-- The second direction of a block. -/
theorem ld1 (x : S2x1x512x512.Idx → Elt Ideal .f32) (r k : Fin 512) :
    (View.ld (Val := Elt Ideal) (e' := .f32) x r0_1 : FVec Ideal S1x1x512x512 .f32) (ix4 0 0 r k) = x (ix4 1 0 r k) :=
  View.ld_unit_apply_of _ _ _ _ _ _ fun a => by fin_cases a <;> simp

/-- A row of 512, whole. -/
theorem ld2 (x : S1x512.Idx → Elt Ideal .f32) (k : Fin 512) :
    (View.ld (Val := Elt Ideal) (e' := .f32) x r0_2 : FVec Ideal S1x512 .f32) (ix2 0 k) = x (ix2 0 k) :=
  View.ld_unit_apply_of _ _ _ _ _ _ fun a => by fin_cases a <;> simp

/-- A block of gates, whole. -/
theorem ld3 (x : S1x512x512.Idx → Elt Ideal .bf16) (r k : Fin 512) :
    (View.ld (Val := Elt Ideal) (e' := .bf16) x r0_3 : FVec Ideal S1x512x512 .bf16) (ix3 0 r k) = x (ix3 0 r k) :=
  View.ld_unit_apply_of _ _ _ _ _ _ fun a => by fin_cases a <;> simp

/-- The lower half of the columns. -/
theorem ld4 (x : S1x512x1024.Idx → Elt Ideal .bf16) (r k : Fin 512) :
    (View.ld (Val := Elt Ideal) (e' := .bf16) x r0_4 : FVec Ideal S1x512x512 .bf16) (ix3 0 r k) = x (ix3 0 r ⟨k, by omega⟩) :=
  View.ld_unit_apply_of _ _ _ _ _ _ fun a => by fin_cases a <;> simp

/-- The upper half of the columns. -/
theorem ld5 (x : S1x512x1024.Idx → Elt Ideal .bf16) (r k : Fin 512) :
    (View.ld (Val := Elt Ideal) (e' := .bf16) x r0_5 : FVec Ideal S1x512x512 .bf16) (ix3 0 r k) = x (ix3 0 r ⟨512 + k, by omega⟩) :=
  View.ld_unit_apply_of _ _ _ _ _ _ fun a => by fin_cases a <;> simp

/-- The residual block, whole. -/
theorem ld6 (x : S1x512x1024.Idx → Elt Ideal .f32) (r : Fin 512) (k : Fin 1024) :
    (View.ld (Val := Elt Ideal) (e' := .f32) x r0_6 : FVec Ideal S1x512x1024 .f32) (ix3 0 r k) = x (ix3 0 r k) :=
  View.ld_unit_apply_of _ _ _ _ _ _ fun a => by fin_cases a <;> simp

/-- A modulation row, whole. -/
theorem ld7 (x : S1x1x1x1x1024.Idx → Elt Ideal .f32) (k : Fin 1024) :
    (View.ld (Val := Elt Ideal) (e' := .f32) x r0_7 : FVec Ideal S1x1x1x1x1024 .f32) (ix5 0 0 0 0 k) = x (ix5 0 0 0 0 k) :=
  View.ld_unit_apply_of _ _ _ _ _ _ fun a => by fin_cases a <;> simp

/-- The output projection, whole. -/
theorem ld8 (x : S1x1024x1024.Idx → Elt Ideal .bf16) (l k : Fin 1024) :
    (View.ld (Val := Elt Ideal) (e' := .bf16) x r0_8 : FVec Ideal S1x1024x1024 .bf16) (ix3 0 l k) = x (ix3 0 l k) :=
  View.ld_unit_apply_of _ _ _ _ _ _ fun a => by fin_cases a <;> simp

/-- Row 1 of the norm weights. -/
theorem ld9 (x : S1x4x1024.Idx → Elt Ideal .f32) (k : Fin 1024) :
    (View.ld (Val := Elt Ideal) (e' := .f32) x r0_9 : FVec Ideal S1x1x1024 .f32) (ix3 0 0 k) = x (ix3 0 1 k) :=
  View.ld_unit_apply_of _ _ _ _ _ _ fun a => by fin_cases a <;> simp

/-- Row 2 of the norm weights. -/
theorem ld10 (x : S1x4x1024.Idx → Elt Ideal .f32) (k : Fin 1024) :
    (View.ld (Val := Elt Ideal) (e' := .f32) x r0_10 : FVec Ideal S1x1x1024 .f32) (ix3 0 0 k) = x (ix3 0 2 k) :=
  View.ld_unit_apply_of _ _ _ _ _ _ fun a => by fin_cases a <;> simp

/-- Row 3 of the norm weights. -/
theorem ld19 (x : S1x4x1024.Idx → Elt Ideal .f32) (k : Fin 1024) :
    (View.ld (Val := Elt Ideal) (e' := .f32) x r0_19 : FVec Ideal S1x1x1024 .f32) (ix3 0 0 k) = x (ix3 0 3 k) :=
  View.ld_unit_apply_of _ _ _ _ _ _ fun a => by fin_cases a <;> simp

/-- Chunk 0 of the first feed-forward weights. -/
theorem ld11 (x : S1x1024x4096.Idx → Elt Ideal .bf16) (l k : Fin 1024) :
    (View.ld (Val := Elt Ideal) (e' := .bf16) x r0_11 : FVec Ideal S1x1024x1024 .bf16) (ix3 0 l k) = x (ix3 0 l ⟨k, by omega⟩) :=
  View.ld_unit_apply_of _ _ _ _ _ _ fun a => by fin_cases a <;> simp

/-- Chunk 1 of the first feed-forward weights. -/
theorem ld12 (x : S1x1024x4096.Idx → Elt Ideal .bf16) (l k : Fin 1024) :
    (View.ld (Val := Elt Ideal) (e' := .bf16) x r0_12 : FVec Ideal S1x1024x1024 .bf16) (ix3 0 l k) = x (ix3 0 l ⟨1024 + k, by omega⟩) :=
  View.ld_unit_apply_of _ _ _ _ _ _ fun a => by fin_cases a <;> simp

/-- Chunk 2 of the first feed-forward weights. -/
theorem ld13 (x : S1x1024x4096.Idx → Elt Ideal .bf16) (l k : Fin 1024) :
    (View.ld (Val := Elt Ideal) (e' := .bf16) x r0_13 : FVec Ideal S1x1024x1024 .bf16) (ix3 0 l k) = x (ix3 0 l ⟨2048 + k, by omega⟩) :=
  View.ld_unit_apply_of _ _ _ _ _ _ fun a => by fin_cases a <;> simp

/-- Chunk 3 of the first feed-forward weights. -/
theorem ld14 (x : S1x1024x4096.Idx → Elt Ideal .bf16) (l k : Fin 1024) :
    (View.ld (Val := Elt Ideal) (e' := .bf16) x r0_14 : FVec Ideal S1x1024x1024 .bf16) (ix3 0 l k) = x (ix3 0 l ⟨3072 + k, by omega⟩) :=
  View.ld_unit_apply_of _ _ _ _ _ _ fun a => by fin_cases a <;> simp

/-- Chunk 0 of the second feed-forward weights. -/
theorem ld15 (x : S1x4096x1024.Idx → Elt Ideal .bf16) (l k : Fin 1024) :
    (View.ld (Val := Elt Ideal) (e' := .bf16) x r0_15 : FVec Ideal S1x1024x1024 .bf16) (ix3 0 l k) = x (ix3 0 ⟨l, by omega⟩ k) :=
  View.ld_unit_apply_of _ _ _ _ _ _ fun a => by fin_cases a <;> simp

/-- Chunk 1 of the second feed-forward weights. -/
theorem ld16 (x : S1x4096x1024.Idx → Elt Ideal .bf16) (l k : Fin 1024) :
    (View.ld (Val := Elt Ideal) (e' := .bf16) x r0_16 : FVec Ideal S1x1024x1024 .bf16) (ix3 0 l k) = x (ix3 0 ⟨1024 + l, by omega⟩ k) :=
  View.ld_unit_apply_of _ _ _ _ _ _ fun a => by fin_cases a <;> simp

/-- Chunk 2 of the second feed-forward weights. -/
theorem ld17 (x : S1x4096x1024.Idx → Elt Ideal .bf16) (l k : Fin 1024) :
    (View.ld (Val := Elt Ideal) (e' := .bf16) x r0_17 : FVec Ideal S1x1024x1024 .bf16) (ix3 0 l k) = x (ix3 0 ⟨2048 + l, by omega⟩ k) :=
  View.ld_unit_apply_of _ _ _ _ _ _ fun a => by fin_cases a <;> simp

/-- Chunk 3 of the second feed-forward weights. -/
theorem ld18 (x : S1x4096x1024.Idx → Elt Ideal .bf16) (l k : Fin 1024) :
    (View.ld (Val := Elt Ideal) (e' := .bf16) x r0_18 : FVec Ideal S1x1024x1024 .bf16) (ix3 0 l k) = x (ix3 0 ⟨3072 + l, by omega⟩ k) :=
  View.ld_unit_apply_of _ _ _ _ _ _ fun a => by fin_cases a <;> simp

/-- The half sums of a row's four slices, side by side and scaled, are its means over groups of 64. -/
theorem halfMean_beside (y : Fin 512 → EReal) (k : Fin 512) :
    beside (halfSum lower fun i => y ⟨i, by omega⟩) (halfSum lower fun i => y ⟨128 + i, by omega⟩)
        (halfSum lower fun i => y ⟨256 + i, by omega⟩) (halfSum lower fun i => y ⟨384 + i, by omega⟩) k
      * Ideal.ofBits .f32 0x3C800000#32 = halfMean y k := by
  rw [beside_halfSum]
  rfl

variable (x0 : FVec Ideal S1x512x1024 .f32) (x1 : FVec Ideal S2x1x512x512 .f32) (x2 : FVec Ideal S1x512x512 .bf16) (x3 : FVec Ideal S2x1x512x512 .f32) (x4 : FVec Ideal S1x512x1024 .bf16) (x5 : FVec Ideal S1x512 .f32) (x6 : FVec Ideal S1x512 .f32) (x7 : FVec Ideal S1x512 .f32) (x8 : FVec Ideal S1x1024x1024 .bf16) (x9 : FVec Ideal S1x1024x4096 .bf16) (x10 : FVec Ideal S1x4096x1024 .bf16) (x11 : FVec Ideal S1x4x1024 .f32) (x12 : FVec Ideal S1x1x1x1x1024 .f32) (x13 : FVec Ideal S1x1x1x1x1024 .f32) (x14 : FVec Ideal S1x1x1x1x1024 .f32) (x15 : FVec Ideal S1x1x1x1x1024 .f32)

/-- The two directions of the recurrence, added. -/
theorem pay33_at (r k : Fin 512) :
    k0_pay33 (F := Ideal) x0 x1 x2 x3 x4 x5 x6 x7 x8 x9 x10 x11 x12 x13 x14 x15 (ix2 r k) = x3 (ix4 0 0 r k) + x3 (ix4 1 0 r k) := by
  unfold k0_pay33
  rw [pay5_at, ld0, ld1]

/-- The row less its group means. -/
theorem centered_at (r k : Fin 512) :
    k0_pay11 (F := Ideal) (k0_pay33 (F := Ideal) x0 x1 x2 x3 x4 x5 x6 x7 x8 x9 x10 x11 x12 x13 x14 x15) (k0_pay34 (F := Ideal) x0 x1 x2 x3 x4 x5 x6 x7 x8 x9 x10 x11 x12 x13 x14 x15) (k0_pay35 (F := Ideal) x0 x1 x2 x3 x4 x5 x6 x7 x8 x9 x10 x11 x12 x13 x14 x15) (k0_pay36 (F := Ideal) x0 x1 x2 x3 x4 x5 x6 x7 x8 x9 x10 x11 x12 x13 x14 x15) (k0_pay37 (F := Ideal) x0 x1 x2 x3 x4 x5 x6 x7 x8 x9 x10 x11 x12 x13 x14 x15) (ix2 r k)
      = (fun j => x3 (ix4 0 0 r j) + x3 (ix4 1 0 r j)) k - halfMean (fun j => x3 (ix4 0 0 r j) + x3 (ix4 1 0 r j)) k := by
  rw [pay11_at]
  simp only [pay33_at]
  unfold k0_pay34 k0_pay35 k0_pay36 k0_pay37
  simp only [pay7_at, pay9_at, pay10_at, pay8_at, pay5_at, mask_at, ld0 x3, ld1 x3]
  exact congrArg (fun z => x3 (ix4 0 0 r k) + x3 (ix4 1 0 r k) - z) (halfMean_beside (fun j => x3 (ix4 0 0 r j) + x3 (ix4 1 0 r j)) k)

/-- The mixer's row, lower half: the gated matrix memory. -/
theorem mix_low (r k : Fin 512) :
    k0_pay40 (F := Ideal) x0 x1 x2 x3 x4 x5 x6 x7 x8 x9 x10 x11 x12 x13 x14 x15 (ix2 r ⟨k, by omega⟩)
      = remembered (fun j => x1 (ix4 0 0 r j) + x1 (ix4 1 0 r j)) (fun j => x5 (ix2 0 j)) (fun j => x2 (ix3 0 r j)) k := by
  unfold k0_pay40
  rw [pay19_at, dif_pos k.isLt, pay4_at, pay2_at, pay3_at]
  simp only [ld0 x1, ld1 x1, ld2 x5, ld3 x2]
  rfl

/-- The mixer's row, upper half: the gated group norm of the recurrence. -/
theorem mix_high (r k : Fin 512) :
    k0_pay40 (F := Ideal) x0 x1 x2 x3 x4 x5 x6 x7 x8 x9 x10 x11 x12 x13 x14 x15 (ix2 r ⟨512 + k, by omega⟩)
      = halved (fun j => x3 (ix4 0 0 r j) + x3 (ix4 1 0 r j)) (fun j => x6 (ix2 0 j)) (fun j => x7 (ix2 0 j)) (fun j => x4 (ix3 0 r ⟨j, by omega⟩))
          (fun j => x4 (ix3 0 r ⟨512 + j, by omega⟩)) k := by
  have hk : (⟨((⟨512 + (k : ℕ), by omega⟩ : Fin 1024) : ℕ) - 512, by simp⟩ : Fin 512) = k := Fin.ext (by simp)
  unfold k0_pay40 k0_pay39 k0_pay38
  rw [pay19_at, dif_neg (by simp)]
  simp only [hk]
  simp only [pay15_at, pay16_at, pay17_at, pay18_at, pay14_at, pay12_at, mask'_at, centered_at, ld2 x6, ld2 x7, ld4 x4, ld5 x4]
  unfold halved
  dsimp only
  refine congrArg (fun z => ((x3 (ix4 0 0 r k) + x3 (ix4 1 0 r k) - halfMean (fun j => x3 (ix4 0 0 r j) + x3 (ix4 1 0 r j)) k)
    * Ideal.rsqrt (z + cGroupEps) * x6 (ix2 0 k) + x7 (ix2 0 k) + x4 (ix3 0 r ⟨k, by omega⟩)) * x4 (ix3 0 r ⟨512 + k, by omega⟩)) ?_
  exact halfMean_beside (fun j => ((fun j => x3 (ix4 0 0 r j) + x3 (ix4 1 0 r j)) j - halfMean (fun j => x3 (ix4 0 0 r j) + x3 (ix4 1 0 r j)) j) * ((fun j => x3 (ix4 0 0 r j) + x3 (ix4 1 0 r j)) j - halfMean (fun j => x3 (ix4 0 0 r j) + x3 (ix4 1 0 r j)) j)) k

/-- The output projection of the mixer's row. -/
theorem proj_at (r : Fin 512) (j : Fin 1024) :
    ∑ l : Fin 1024, k0_pay40 (F := Ideal) x0 x1 x2 x3 x4 x5 x6 x7 x8 x9 x10 x11 x12 x13 x14 x15 (ix2 r l) * x8 (ix3 0 l j)
      = project (remembered (fun j => x1 (ix4 0 0 r j) + x1 (ix4 1 0 r j)) (fun j => x5 (ix2 0 j)) (fun j => x2 (ix3 0 r j)))
          (halved (fun j => x3 (ix4 0 0 r j) + x3 (ix4 1 0 r j)) (fun j => x6 (ix2 0 j)) (fun j => x7 (ix2 0 j)) (fun j => x4 (ix3 0 r ⟨j, by omega⟩))
            (fun j => x4 (ix3 0 r ⟨512 + j, by omega⟩))) (fun l j => x8 (ix3 0 l j)) j := by
  rw [Fin.sum_univ_tiles 2 512 rfl (fun l : Fin 1024 => k0_pay40 (F := Ideal) x0 x1 x2 x3 x4 x5 x6 x7 x8 x9 x10 x11 x12 x13 x14 x15 (ix2 r l) * x8 (ix3 0 l j)), Fin.sum_univ_two]
  unfold project
  refine congrArg₂ (· + ·) (Finset.sum_congr rfl fun k _ => ?_) (Finset.sum_congr rfl fun k _ => ?_)
  · rw [← mix_low x0 x1 x2 x3 x4 x5 x6 x7 x8 x9 x10 x11 x12 x13 x14 x15]
    refine congrArg (fun l : Fin 1024 => k0_pay40 (F := Ideal) x0 x1 x2 x3 x4 x5 x6 x7 x8 x9 x10 x11 x12 x13 x14 x15 (ix2 r l) * x8 (ix3 0 l j)) (Fin.ext ?_)
    simp
  · rw [← mix_high x0 x1 x2 x3 x4 x5 x6 x7 x8 x9 x10 x11 x12 x13 x14 x15]
    refine congrArg (fun l : Fin 1024 => k0_pay40 (F := Ideal) x0 x1 x2 x3 x4 x5 x6 x7 x8 x9 x10 x11 x12 x13 x14 x15 (ix2 r l) * x8 (ix3 0 l j)) (Fin.ext ?_)
    simp

/-- The row after the mixer's gated residual, from the blocks. -/
def mid (r : Fin 512) : Fin 1024 → EReal :=
  resid (fun j => x0 (ix3 0 r j)) (fun j => x12 (ix5 0 0 0 0 j))
    (rms (project (remembered (fun j => x1 (ix4 0 0 r j) + x1 (ix4 1 0 r j)) (fun j => x5 (ix2 0 j)) (fun j => x2 (ix3 0 r j)))
          (halved (fun j => x3 (ix4 0 0 r j) + x3 (ix4 1 0 r j)) (fun j => x6 (ix2 0 j)) (fun j => x7 (ix2 0 j)) (fun j => x4 (ix3 0 r ⟨j, by omega⟩))
            (fun j => x4 (ix3 0 r ⟨512 + j, by omega⟩))) (fun l j => x8 (ix3 0 l j))) (fun j => x11 (ix3 0 1 j)))

/-- The row after the mixer's gated residual. -/
theorem mid_at (r : Fin 512) (j : Fin 1024) :
    k0_pay21 (F := Ideal) (k0_pay40 x0 x1 x2 x3 x4 x5 x6 x7 x8 x9 x10 x11 x12 x13 x14 x15) (k0_pay41 x0 x1 x2 x3 x4 x5 x6 x7 x8 x9 x10 x11 x12 x13 x14 x15) (View.ld x12 r0_7) (View.ld x8 r0_8) (View.ld x11 r0_9) (ix2 r j)
      = mid x0 x1 x2 x3 x4 x5 x6 x7 x8 x11 x12 r j := by
  unfold k0_pay41
  rw [pay21_at]
  simp only [pay20_at, ld6 x0, ld7 x12, ld8 x8, ld9 x11]
  rw [show (fun j => ∑ l : Fin 1024, k0_pay40 (F := Ideal) x0 x1 x2 x3 x4 x5 x6 x7 x8 x9 x10 x11 x12 x13 x14 x15 (ix2 r l) * x8 (ix3 0 l j)) = _ from funext (proj_at x0 x1 x2 x3 x4 x5 x6 x7 x8 x9 x10 x11 x12 x13 x14 x15 r)]
  rfl

/-- The row that enters the feed-forward block, from the blocks. -/
def entering (r : Fin 512) : Fin 1024 → EReal :=
  modulated (mid x0 x1 x2 x3 x4 x5 x6 x7 x8 x11 x12 r) (fun j => x11 (ix3 0 2 j)) (fun j => x14 (ix5 0 0 0 0 j))
    (fun j => x13 (ix5 0 0 0 0 j))

/-- The row that enters the feed-forward block. -/
theorem entering_at (r : Fin 512) (j : Fin 1024) :
    k0_pay23 (F := Ideal) (k0_pay42 x0 x1 x2 x3 x4 x5 x6 x7 x8 x9 x10 x11 x12 x13 x14 x15) (View.ld x14 r0_7) (View.ld x13 r0_7) (ix2 r j)
      = entering x0 x1 x2 x3 x4 x5 x6 x7 x8 x11 x12 x13 x14 r j := by
  unfold k0_pay42
  rw [pay23_at, pay22_at]
  simp only [mid_at, ld7 x13, ld7 x14, ld10 x11]
  rfl

/-- Chunk 0 of the hidden units. -/
theorem hidden0_at (r : Fin 512) (k : Fin 1024) :
    k0_pay43 (F := Ideal) x0 x1 x2 x3 x4 x5 x6 x7 x8 x9 x10 x11 x12 x13 x14 x15 (ix2 r k) = hiddenUnit (entering x0 x1 x2 x3 x4 x5 x6 x7 x8 x11 x12 x13 x14 r) (fun l => x9 (ix3 0 l ⟨k, by omega⟩)) := by
  unfold k0_pay43
  rw [pay24_at]
  simp only [entering_at, ld11 x9]

/-- Chunk 1 of the hidden units. -/
theorem hidden1_at (r : Fin 512) (k : Fin 1024) :
    k0_pay44 (F := Ideal) x0 x1 x2 x3 x4 x5 x6 x7 x8 x9 x10 x11 x12 x13 x14 x15 (ix2 r k) = hiddenUnit (entering x0 x1 x2 x3 x4 x5 x6 x7 x8 x11 x12 x13 x14 r) (fun l => x9 (ix3 0 l ⟨1024 + k, by omega⟩)) := by
  unfold k0_pay44
  rw [pay25_at]
  simp only [entering_at, ld12 x9]

/-- Chunk 2 of the hidden units. -/
theorem hidden2_at (r : Fin 512) (k : Fin 1024) :
    k0_pay45 (F := Ideal) x0 x1 x2 x3 x4 x5 x6 x7 x8 x9 x10 x11 x12 x13 x14 x15 (ix2 r k) = hiddenUnit (entering x0 x1 x2 x3 x4 x5 x6 x7 x8 x11 x12 x13 x14 r) (fun l => x9 (ix3 0 l ⟨2048 + k, by omega⟩)) := by
  unfold k0_pay45
  rw [pay26_at]
  simp only [entering_at, ld13 x9]

/-- Chunk 3 of the hidden units. -/
theorem hidden3_at (r : Fin 512) (k : Fin 1024) :
    k0_pay46 (F := Ideal) x0 x1 x2 x3 x4 x5 x6 x7 x8 x9 x10 x11 x12 x13 x14 x15 (ix2 r k) = hiddenUnit (entering x0 x1 x2 x3 x4 x5 x6 x7 x8 x11 x12 x13 x14 r) (fun l => x9 (ix3 0 l ⟨3072 + k, by omega⟩)) := by
  unfold k0_pay46
  rw [pay27_at]
  simp only [entering_at, ld14 x9]

/-- The feed-forward block. -/
theorem ffn_at (r : Fin 512) (j : Fin 1024) :
    k0_pay28 (F := Ideal) (k0_pay43 (F := Ideal) x0 x1 x2 x3 x4 x5 x6 x7 x8 x9 x10 x11 x12 x13 x14 x15) (k0_pay44 (F := Ideal) x0 x1 x2 x3 x4 x5 x6 x7 x8 x9 x10 x11 x12 x13 x14 x15) (k0_pay45 (F := Ideal) x0 x1 x2 x3 x4 x5 x6 x7 x8 x9 x10 x11 x12 x13 x14 x15) (k0_pay46 (F := Ideal) x0 x1 x2 x3 x4 x5 x6 x7 x8 x9 x10 x11 x12 x13 x14 x15) (View.ld x10 r0_15) (View.ld x10 r0_16) (View.ld x10 r0_17) (View.ld x10 r0_18) (ix2 r j)
      = ffn (entering x0 x1 x2 x3 x4 x5 x6 x7 x8 x11 x12 x13 x14 r) (fun l k => x9 (ix3 0 l k)) (fun k j => x10 (ix3 0 k j)) j := by
  rw [pay28_at]
  simp only [hidden0_at, hidden1_at, hidden2_at, hidden3_at, ld15 x10, ld16 x10, ld17 x10, ld18 x10]
  unfold ffn
  rw [sum_chunks]

/-- What the body leaves in the output block, from the blocks it is handed, at a row and a column. -/
theorem out_at (b : Fin 1) (r : Fin 512) (k : Fin 1024) :
    out0_16 (F := Ideal) x0 x1 x2 x3 x4 x5 x6 x7 x8 x9 x10 x11 x12 x13 x14 x15 (ix3 b r k)
      = layerEnd (fun j => x0 (ix3 0 r j))
          (project (remembered (fun j => x1 (ix4 0 0 r j) + x1 (ix4 1 0 r j)) (fun j => x5 (ix2 0 j)) (fun j => x2 (ix3 0 r j)))
            (halved (fun j => x3 (ix4 0 0 r j) + x3 (ix4 1 0 r j)) (fun j => x6 (ix2 0 j)) (fun j => x7 (ix2 0 j)) (fun j => x4 (ix3 0 r ⟨j, by omega⟩))
              (fun j => x4 (ix3 0 r ⟨512 + j, by omega⟩))) (fun l j => x8 (ix3 0 l j)))
          (fun j => x12 (ix5 0 0 0 0 j)) (fun j => x13 (ix5 0 0 0 0 j)) (fun j => x14 (ix5 0 0 0 0 j))
          (fun j => x15 (ix5 0 0 0 0 j)) (fun j => x11 (ix3 0 1 j)) (fun j => x11 (ix3 0 2 j)) (fun j => x11 (ix3 0 3 j))
          (fun l k => x9 (ix3 0 l k)) (fun k j => x10 (ix3 0 k j)) k := by
  frame_open
  simp (disch := decide) only [View.canon_cons_unit_lit']
  rw [pay1_at]
  simp only [pay31_at, pay32_at, pay29_at, pay30_at, mid_at, ffn_at, ld7 x15, ld19 x11]
  rfl

end Cert.Kernel3Ideal.EvenRows
-- ==== Proof.EvenBlocks.lean ====
/- The even layer's kernel: the blocks its body reads at a grid point, as entries of the argument arrays. -/
module

public import proofs.«01_k».proof.Proof.EvenSpec
public import proofs.«01_k».proof.Proof.Gen.Kernel3Ideal.Frame
public import Idealize.ShloMosaic.Lib.Pipeline.ValueKit
public import Idealize.ShloMosaic.Lib.StableHlo.ReadAt

set_option maxRecDepth 16384

@[expose] public section
noncomputable section

open Idealize.ShloMosaic Idealize.ShloMosaic.TcCoe Idealize.SL.Sem
open Idealize.ShloMosaic.Pipeline (Dat)
open Cert.Kernel3Ideal Cert.Kernel3Ideal.Gen Cert.Rows

namespace Cert.Kernel3Ideal.EvenValue

variable (m : (ℓ : Loc nD τ sig) → Buf (Elt Ideal) ℓ)

/-- The argument arrays. -/
abbrev a0 (c : Dev nD) : FVec Ideal S2x8192x1024 .f32 := m ((c : Thread nD τ).loc main_arg0)
abbrev a1 (c : Dev nD) : FVec Ideal S2x2x8448x512 .f32 := m ((c : Thread nD τ).loc main_arg1)
abbrev a2 (c : Dev nD) : FVec Ideal S2x8448x1024 .bf16 := m ((c : Thread nD τ).loc main_arg2)
abbrev a3 (c : Dev nD) : FVec Ideal S2x2x8448x512 .f32 := m ((c : Thread nD τ).loc main_arg3)
abbrev a4 (c : Dev nD) : FVec Ideal S2x8448x1024 .bf16 := m ((c : Thread nD τ).loc main_arg4)
abbrev a5 (c : Dev nD) : FVec Ideal S1x512 .f32 := m ((c : Thread nD τ).loc main_arg5)
abbrev a6 (c : Dev nD) : FVec Ideal S1x512 .f32 := m ((c : Thread nD τ).loc main_arg6)
abbrev a7 (c : Dev nD) : FVec Ideal S1x512 .f32 := m ((c : Thread nD τ).loc main_arg7)
abbrev a8 (c : Dev nD) : FVec Ideal S2x1024x1024 .f32 := m ((c : Thread nD τ).loc main_arg8)
abbrev a9 (c : Dev nD) : FVec Ideal S2x1024x4096 .f32 := m ((c : Thread nD τ).loc main_arg9)
abbrev a10 (c : Dev nD) : FVec Ideal S2x4096x1024 .f32 := m ((c : Thread nD τ).loc main_arg10)
abbrev a11 (c : Dev nD) : FVec Ideal S2x4x1024 .f32 := m ((c : Thread nD τ).loc main_arg11)
abbrev a12 (c : Dev nD) : FVec Ideal S2x8x6144 .f32 := m ((c : Thread nD τ).loc main_arg12)

/-- Where every window's block lies at a grid point: block indices, and element offsets for the four windows whose
    maps give those. -/
theorem idx : ∀ t : Fin cfg0.N,
    win0_0.index t = ![t.val / 16, t.val % 16, 0]
    ∧ win0_1.index t = ![0, t.val / 16, 256 + 512 * (t.val % 16), 0]
    ∧ win0_2.index t = ![t.val / 16, 256 + 512 * (t.val % 16), 512]
    ∧ win0_3.index t = ![0, t.val / 16, 256 + 512 * (t.val % 16), 0]
    ∧ win0_4.index t = ![t.val / 16, 256 + 512 * (t.val % 16), 0]
    ∧ win0_5.index t = ![0, 0]
    ∧ win0_6.index t = ![0, 0]
    ∧ win0_7.index t = ![0, 0]
    ∧ win0_8.index t = ![0, 0, 0]
    ∧ win0_9.index t = ![0, 0, 0]
    ∧ win0_10.index t = ![0, 0, 0]
    ∧ win0_11.index t = ![0, 0, 0]
    ∧ win0_12.index t = ![t.val / 16, 1, 2, 0, 0]
    ∧ win0_13.index t = ![t.val / 16, 1, 3, 0, 0]
    ∧ win0_14.index t = ![t.val / 16, 1, 4, 0, 0]
    ∧ win0_15.index t = ![t.val / 16, 1, 5, 0, 0]
    ∧ win0_16.index t = ![t.val / 16, t.val % 16, 0]
    ∧ t.val / 16 < 2 :=
  (by decide +kernel : ∀ t : Fin grid0.N, _)

/-- The batch coordinate of a grid point. -/
theorem lt_two (t : Fin cfg0.N) : t.val / 16 < 2 := (idx t).2.2.2.2.2.2.2.2.2.2.2.2.2.2.2.2.2

/-- An index of the block of the matrix-memory outputs, placed: its offset plus the index. -/
theorem emb1 (t : Fin cfg0.N) (y : S2x1x512x512.Idx) (a : Fin 4) :
    ((((View.whole main_arg1).slice (win0_1.rect t)).emb y a : Fin _) : ℕ) = win0_1.index t a + (y a : ℕ) :=
  win0_1.rect_emb_val_off t y a

/-- An index of the block of the output gates, placed: its offset plus the index. -/
theorem emb2 (t : Fin cfg0.N) (y : S1x512x512.Idx) (a : Fin 3) :
    ((((View.whole main_arg2).slice (win0_2.rect t)).emb y a : Fin _) : ℕ) = win0_2.index t a + (y a : ℕ) :=
  win0_2.rect_emb_val_off t y a

/-- An index of the block of the recurrence outputs, placed: its offset plus the index. -/
theorem emb3 (t : Fin cfg0.N) (y : S2x1x512x512.Idx) (a : Fin 4) :
    ((((View.whole main_arg3).slice (win0_3.rect t)).emb y a : Fin _) : ℕ) = win0_3.index t a + (y a : ℕ) :=
  win0_3.rect_emb_val_off t y a

/-- An index of the block of the bonus and the gates, placed: its offset plus the index. -/
theorem emb4 (t : Fin cfg0.N) (y : S1x512x1024.Idx) (a : Fin 3) :
    ((((View.whole main_arg4).slice (win0_4.rect t)).emb y a : Fin _) : ℕ) = win0_4.index t a + (y a : ℕ) :=
  win0_4.rect_emb_val_off t y a

/-- The block of the matrix-memory outputs, both directions: 256 tokens further on. -/
theorem blk1 (c : Dev nD) (t : Fin cfg0.N) (d : Fin 2) (r k : Fin 512) :
    (iblk m c 1 t : FVec Ideal S2x1x512x512 .f32) (ix4 d 0 r k) = a1 m c (ix4 d ⟨t.val / 16, lt_two t⟩ ⟨256 + (512 * (t.val % 16) + r), by omega⟩ k) := by
  have hidx := (idx t).2.1
  blk_ext [iblk, V, hidx]
  all_goals (rw [emb1, hidx]; simp)
  omega

/-- The block of the recurrence outputs, both directions: 256 tokens further on. -/
theorem blk3 (c : Dev nD) (t : Fin cfg0.N) (d : Fin 2) (r k : Fin 512) :
    (iblk m c 3 t : FVec Ideal S2x1x512x512 .f32) (ix4 d 0 r k) = a3 m c (ix4 d ⟨t.val / 16, lt_two t⟩ ⟨256 + (512 * (t.val % 16) + r), by omega⟩ k) := by
  have hidx := (idx t).2.2.2.1
  blk_ext [iblk, V, hidx]
  all_goals (rw [emb3, hidx]; simp)
  omega

/-- The block of the output gates: 256 tokens further on, columns from 512. -/
theorem blk2 (c : Dev nD) (t : Fin cfg0.N) (r k : Fin 512) :
    (iblk m c 2 t : FVec Ideal S1x512x512 .bf16) (ix3 0 r k)
      = a2 m c (ix3 ⟨t.val / 16, lt_two t⟩ ⟨256 + (512 * (t.val % 16) + r), by omega⟩ ⟨512 + k, by omega⟩) := by
  have hidx := (idx t).2.2.1
  blk_ext [iblk, V, hidx]
  all_goals (rw [emb2, hidx]; simp)
  omega

/-- The block of the bonus and the gates: 256 tokens further on. -/
theorem blk4 (c : Dev nD) (t : Fin cfg0.N) (r : Fin 512) (k : Fin 1024) :
    (iblk m c 4 t : FVec Ideal S1x512x1024 .bf16) (ix3 0 r k) = a4 m c (ix3 ⟨t.val / 16, lt_two t⟩ ⟨256 + (512 * (t.val % 16) + r), by omega⟩ k) := by
  have hidx := (idx t).2.2.2.2.1
  blk_ext [iblk, V, hidx]
  all_goals (rw [emb4, hidx]; simp)
  omega

/-- The stacked modulations, segment 1, as entries of the modulation table. -/
theorem mods_at (c : Dev nD) (b : Fin 2) (k : Fin 6) (j : Fin 1024) :
    (V m c main_v13 : FVec Ideal S2x2x6x1x1024 .f32) (ix5 b 1 k 0 j)
      = a12 m c (ix3 0 ⟨b, by omega⟩ ⟨k * 1024 + j, by omega⟩) := by
  entry_read
  clean_types
  pointwise

/-- The matrix memory's norm weights after their two reshapes. -/
theorem row5_at (c : Dev nD) (k : Fin 512) :
    (V m c main_v15 : FVec Ideal S1x512 .f32) (ix2 0 k) = a5 m c (ix2 0 k) := by
  entry_read
  clean_types
  pointwise

/-- The group norm's weights after their two reshapes. -/
theorem row6_at (c : Dev nD) (k : Fin 512) :
    (V m c main_v17 : FVec Ideal S1x512 .f32) (ix2 0 k) = a6 m c (ix2 0 k) := by
  entry_read
  clean_types
  pointwise

/-- The group norm's shifts after their two reshapes. -/
theorem row7_at (c : Dev nD) (k : Fin 512) :
    (V m c main_v19 : FVec Ideal S1x512 .f32) (ix2 0 k) = a7 m c (ix2 0 k) := by
  entry_read
  clean_types
  pointwise

/-- The cast output projection: the argument, at this instance. -/
theorem w8_at (c : Dev nD) (l : Fin 1024) (j : Fin 1024) :
    (V m c main_v1 : FVec Ideal S2x1024x1024 .bf16) (ix3 0 l j) = a8 m c (ix3 0 l j) := by
  entry_read
  clean_types
  pointwise

/-- The cast first feed-forward weights: the argument, at this instance. -/
theorem w9_at (c : Dev nD) (l : Fin 1024) (j : Fin 4096) :
    (V m c main_v2 : FVec Ideal S2x1024x4096 .bf16) (ix3 0 l j) = a9 m c (ix3 0 l j) := by
  entry_read
  clean_types
  pointwise

/-- The cast second feed-forward weights: the argument, at this instance. -/
theorem w10_at (c : Dev nD) (l : Fin 4096) (j : Fin 1024) :
    (V m c main_v3 : FVec Ideal S2x4096x1024 .bf16) (ix3 0 l j) = a10 m c (ix3 0 l j) := by
  entry_read
  clean_types
  pointwise

/-- The block of the residual: batch and row tile of the grid point. -/
theorem blk0 (c : Dev nD) (t : Fin cfg0.N) (r : Fin 512) (k : Fin 1024) :
    (iblk m c 0 t : FVec Ideal S1x512x1024 .f32) (ix3 0 r k)
      = a0 m c (ix3 ⟨t.val / 16, lt_two t⟩ ⟨512 * (t.val % 16) + r, by omega⟩ k) := by
  have hidx := (idx t).1
  blk_ext [iblk, V, hidx]

/-- The block of the matrix memory's norm weights. -/
theorem blk5 (c : Dev nD) (t : Fin cfg0.N) (k : Fin 512) :
    (iblk m c 5 t : FVec Ideal S1x512 .f32) (ix2 0 k) = a5 m c (ix2 0 k) := by
  have hidx := (idx t).2.2.2.2.2.1
  refine Eq.trans ?_ (row5_at m c k)
  blk_ext [iblk, hidx]

/-- The block of the group norm's weights. -/
theorem blk6 (c : Dev nD) (t : Fin cfg0.N) (k : Fin 512) :
    (iblk m c 6 t : FVec Ideal S1x512 .f32) (ix2 0 k) = a6 m c (ix2 0 k) := by
  have hidx := (idx t).2.2.2.2.2.2.1
  refine Eq.trans ?_ (row6_at m c k)
  blk_ext [iblk, hidx]

/-- The block of the group norm's shifts. -/
theorem blk7 (c : Dev nD) (t : Fin cfg0.N) (k : Fin 512) :
    (iblk m c 7 t : FVec Ideal S1x512 .f32) (ix2 0 k) = a7 m c (ix2 0 k) := by
  have hidx := (idx t).2.2.2.2.2.2.2.1
  refine Eq.trans ?_ (row7_at m c k)
  blk_ext [iblk, hidx]

/-- The block of the output projection: layer 0. -/
theorem blk8 (c : Dev nD) (t : Fin cfg0.N) (l : Fin 1024) (j : Fin 1024) :
    (iblk m c 8 t : FVec Ideal S1x1024x1024 .bf16) (ix3 0 l j) = a8 m c (ix3 0 l j) := by
  have hidx := (idx t).2.2.2.2.2.2.2.2.1
  refine Eq.trans ?_ (w8_at m c l j)
  blk_ext [iblk, hidx]

/-- The block of the first feed-forward weights: layer 0. -/
theorem blk9 (c : Dev nD) (t : Fin cfg0.N) (l : Fin 1024) (j : Fin 4096) :
    (iblk m c 9 t : FVec Ideal S1x1024x4096 .bf16) (ix3 0 l j) = a9 m c (ix3 0 l j) := by
  have hidx := (idx t).2.2.2.2.2.2.2.2.2.1
  refine Eq.trans ?_ (w9_at m c l j)
  blk_ext [iblk, hidx]

/-- The block of the second feed-forward weights: layer 0. -/
theorem blk10 (c : Dev nD) (t : Fin cfg0.N) (l : Fin 4096) (j : Fin 1024) :
    (iblk m c 10 t : FVec Ideal S1x4096x1024 .bf16) (ix3 0 l j) = a10 m c (ix3 0 l j) := by
  have hidx := (idx t).2.2.2.2.2.2.2.2.2.2.1
  refine Eq.trans ?_ (w10_at m c l j)
  blk_ext [iblk, hidx]

/-- The block of the norm weights: layer 0. -/
theorem blk11 (c : Dev nD) (t : Fin cfg0.N) (r : Fin 4) (j : Fin 1024) :
    (iblk m c 11 t : FVec Ideal S1x4x1024 .f32) (ix3 0 r j) = a11 m c (ix3 0 r j) := by
  have hidx := (idx t).2.2.2.2.2.2.2.2.2.2.2.1
  blk_ext [iblk, V, hidx]

/-- The block of modulation 2: the grid point's batch. -/
theorem blk12 (c : Dev nD) (t : Fin cfg0.N) (j : Fin 1024) :
    (iblk m c 12 t : FVec Ideal S1x1x1x1x1024 .f32) (ix5 0 0 0 0 j)
      = a12 m c (ix3 0 ⟨t.val / 16, by have := lt_two t; omega⟩ ⟨2048 + j, by omega⟩) := by
  have hidx := (idx t).2.2.2.2.2.2.2.2.2.2.2.2.1
  refine Eq.trans ?_ (mods_at m c ⟨t.val / 16, lt_two t⟩ 2 j)
  blk_ext [iblk, hidx]

/-- The block of modulation 3: the grid point's batch. -/
theorem blk13 (c : Dev nD) (t : Fin cfg0.N) (j : Fin 1024) :
    (iblk m c 13 t : FVec Ideal S1x1x1x1x1024 .f32) (ix5 0 0 0 0 j)
      = a12 m c (ix3 0 ⟨t.val / 16, by have := lt_two t; omega⟩ ⟨3072 + j, by omega⟩) := by
  have hidx := (idx t).2.2.2.2.2.2.2.2.2.2.2.2.2.1
  refine Eq.trans ?_ (mods_at m c ⟨t.val / 16, lt_two t⟩ 3 j)
  blk_ext [iblk, hidx]

/-- The block of modulation 4: the grid point's batch. -/
theorem blk14 (c : Dev nD) (t : Fin cfg0.N) (j : Fin 1024) :
    (iblk m c 14 t : FVec Ideal S1x1x1x1x1024 .f32) (ix5 0 0 0 0 j)
      = a12 m c (ix3 0 ⟨t.val / 16, by have := lt_two t; omega⟩ ⟨4096 + j, by omega⟩) := by
  have hidx := (idx t).2.2.2.2.2.2.2.2.2.2.2.2.2.2.1
  refine Eq.trans ?_ (mods_at m c ⟨t.val / 16, lt_two t⟩ 4 j)
  blk_ext [iblk, hidx]

/-- The block of modulation 5: the grid point's batch. -/
theorem blk15 (c : Dev nD) (t : Fin cfg0.N) (j : Fin 1024) :
    (iblk m c 15 t : FVec Ideal S1x1x1x1x1024 .f32) (ix5 0 0 0 0 j)
      = a12 m c (ix3 0 ⟨t.val / 16, by have := lt_two t; omega⟩ ⟨5120 + j, by omega⟩) := by
  have hidx := (idx t).2.2.2.2.2.2.2.2.2.2.2.2.2.2.2.1
  refine Eq.trans ?_ (mods_at m c ⟨t.val / 16, lt_two t⟩ 5 j)
  blk_ext [iblk, hidx]

end Cert.Kernel3Ideal.EvenValue
-- ==== Proof.EvenFinal.lean ====
/- The even layer's kernel: its result array is the layer's end of every row, from the argument arrays. -/
module

public import proofs.«01_k».proof.Proof.EvenOut
public import proofs.«01_k».proof.Proof.EvenBlocks

set_option maxRecDepth 16384

@[expose] public section
noncomputable section

open Idealize.ShloMosaic Idealize.ShloMosaic.TcCoe Idealize.SL.Sem
open Idealize.ShloMosaic.Pipeline (Dat)
open Cert.Kernel3Ideal Cert.Kernel3Ideal.Gen Cert.Rows

namespace Cert.Kernel3Ideal.EvenValue

variable (m : (ℓ : Loc nD τ sig) → Buf (Elt Ideal) ℓ)

/-- The layer's end of every row, from the kernel's argument arrays, with the means over groups as the kernel takes
    them. -/
def RES (c : Dev nD) (b : Fin 2) (n : Fin 8192) (j : Fin 1024) : EReal :=
  layerEnd (fun j => a0 m c (ix3 b n j))
    (project
      (remembered (fun k => a1 m c (ix4 0 b ⟨256 + n, by omega⟩ k) + a1 m c (ix4 1 b ⟨256 + n, by omega⟩ k))
        (fun k => a5 m c (ix2 0 k)) (fun k => a2 m c (ix3 b ⟨256 + n, by omega⟩ ⟨512 + k, by omega⟩)))
      (halved (fun k => a3 m c (ix4 0 b ⟨256 + n, by omega⟩ k) + a3 m c (ix4 1 b ⟨256 + n, by omega⟩ k))
        (fun k => a6 m c (ix2 0 k)) (fun k => a7 m c (ix2 0 k))
        (fun k => a4 m c (ix3 b ⟨256 + n, by omega⟩ ⟨k, by omega⟩))
        (fun k => a4 m c (ix3 b ⟨256 + n, by omega⟩ ⟨512 + k, by omega⟩)))
      (fun l j => a8 m c (ix3 0 l j)))
    (fun l => a12 m c (ix3 0 ⟨b, by omega⟩ ⟨2048 + l, by omega⟩))
    (fun l => a12 m c (ix3 0 ⟨b, by omega⟩ ⟨3072 + l, by omega⟩))
    (fun l => a12 m c (ix3 0 ⟨b, by omega⟩ ⟨4096 + l, by omega⟩))
    (fun l => a12 m c (ix3 0 ⟨b, by omega⟩ ⟨5120 + l, by omega⟩))
    (fun j => a11 m c (ix3 0 1 j)) (fun j => a11 m c (ix3 0 2 j)) (fun j => a11 m c (ix3 0 3 j))
    (fun l k => a9 m c (ix3 0 l k)) (fun k j => a10 m c (ix3 0 k j)) j

/-- Of real recurrence outputs that is the layer's end with the means over groups. -/
theorem RES_eq (c : Dev nD) (h : ∀ i, ∃ r : ℝ, a3 m c i = r) (b : Fin 2) (n : Fin 8192) (j : Fin 1024) :
    RES m c b n j
      = evenEnd (fun b n j => a0 m c (ix3 b n j)) (fun d b n k => a1 m c (ix4 d b n k)) (fun b n k => a2 m c (ix3 b n k))
          (fun d b n k => a3 m c (ix4 d b n k)) (fun b n k => a4 m c (ix3 b n k)) (fun k => a5 m c (ix2 0 k))
          (fun k => a6 m c (ix2 0 k)) (fun k => a7 m c (ix2 0 k)) (fun l j => a8 m c (ix3 0 l j))
          (fun l k => a9 m c (ix3 0 l k)) (fun k j => a10 m c (ix3 0 k j)) (fun r j => a11 m c (ix3 0 r j))
          (fun b k => a12 m c (ix3 0 ⟨b, by omega⟩ k)) b n j := by
  unfold RES
  rw [halved_eq _ _ _ _ _ fun k => by
    obtain ⟨u, hu⟩ := h (ix4 0 b ⟨256 + n, by omega⟩ k)
    obtain ⟨v, hv⟩ := h (ix4 1 b ⟨256 + n, by omega⟩ k)
    exact ⟨u + v, by rw [hu, hv, EReal.coe_add]⟩]
  rfl

/-- What a grid point leaves in its block of the result is the layer's end of the block's rows. -/
theorem point (c : Dev nD) (t : Fin cfg0.N) (y : S1x512x1024.Idx) :
    out0_16 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) y
    = RES m c ⟨t.val / 16, lt_two t⟩ ⟨512 * (t.val % 16) + (y 1).val, by idx_bounds; omega⟩ (y 2) := by
  idx_vars y
  refine (EvenRows.out_at _ _ _ _ _ _ _ _ _ _ _ _ _ _ _ _ _ _ _).trans ?_
  exact layerEnd_congr (blk0 m c t _)
    (remembered_congr (fun k => Ideal.add_congr (blk1 m c t 0 _ k) (blk1 m c t 1 _ k)) (blk5 m c t) (blk2 m c t _))
    (halved_congr (fun k => Ideal.add_congr (blk3 m c t 0 _ k) (blk3 m c t 1 _ k)) (blk6 m c t) (blk7 m c t)
      (fun k => blk4 m c t _ ⟨k, by omega⟩) (fun k => blk4 m c t _ ⟨512 + k, by omega⟩))
    (blk8 m c t) (blk12 m c t) (blk13 m c t) (blk14 m c t) (blk15 m c t)
    (blk11 m c t 1) (blk11 m c t 2) (blk11 m c t 3) (blk9 m c t) (blk10 m c t) rfl

/-- The kernel's result array: the layer's end of every row. -/
theorem final (c : Dev nD) : (dats m 0 c).arrAt 16 (cfgs 0).N
    = (fun i : S2x8192x1024.Idx => RES m c (i 0) (i 1) (i 2)) := by
  refine (dats m 0 c).arrAt_eq_of_covers 16 _ (by decide +kernel) fun t _ y => ?_
  have hidx := idx t
  blk_simp
  rw [after0_16]
  refine (point m c t y).trans ?_
  refine congr (congr (congrArg (RES m c) ?_) ?_) ?_ <;> refine Fin.ext ?_ <;> blk_simp [hidx] <;> idx_bounds <;> (try dsimp only) <;> omega

end Cert.Kernel3Ideal.EvenValue
-- ==== Proof.EvenRef.lean ====
/- The even layer's reference, stage by stage, read at a batch, a token and a column. -/
module

public import proofs.«01_k».proof.Proof.EvenSpec
public import proofs.«01_k».proof.Proof.Gen.Reference3Ideal.Run
public import Idealize.ShloMosaic.Lib.Pipeline.ValueKit
public import Idealize.ShloMosaic.Lib.Tactic.CleanTypes

set_option maxRecDepth 16384

@[expose] public section
noncomputable section

open Idealize.ShloMosaic Idealize.ShloMosaic.TcCoe Idealize.SL.Sem Idealize.ShloMosaic.StableHlo
open Cert.Reference3Ideal Cert.Reference3Ideal.Value Cert.Rows

namespace Cert.Reference3Ideal.EvenRef

variable (V : Valuation τ sig (Elt Ideal))

/-- The arguments of the reference as arrays. -/
abbrev a0 : FVec Ideal S2x8192x1024 .f32 := V (Proc.devRef .tc main_arg0)
abbrev a1 : FVec Ideal S2x2x8448x512 .f32 := V (Proc.devRef .tc main_arg1)
abbrev a2 : FVec Ideal S2x8448x1024 .bf16 := V (Proc.devRef .tc main_arg2)
abbrev a3 : FVec Ideal S2x2x8448x512 .f32 := V (Proc.devRef .tc main_arg3)
abbrev a4 : FVec Ideal S2x8448x1024 .bf16 := V (Proc.devRef .tc main_arg4)
abbrev a5 : FVec Ideal S1x512 .f32 := V (Proc.devRef .tc main_arg5)
abbrev a6 : FVec Ideal S1x512 .f32 := V (Proc.devRef .tc main_arg6)
abbrev a7 : FVec Ideal S1x512 .f32 := V (Proc.devRef .tc main_arg7)
abbrev a8 : FVec Ideal S2x1024x1024 .f32 := V (Proc.devRef .tc main_arg8)
abbrev a9 : FVec Ideal S2x1024x4096 .f32 := V (Proc.devRef .tc main_arg9)
abbrev a10 : FVec Ideal S2x4096x1024 .f32 := V (Proc.devRef .tc main_arg10)
abbrev a11 : FVec Ideal S2x4x1024 .f32 := V (Proc.devRef .tc main_arg11)
abbrev a12 : FVec Ideal S2x8x6144 .f32 := V (Proc.devRef .tc main_arg12)

/-- The modulation vector of layer 0. -/
theorem mod_at (b : Fin 2) (k : Fin 6144) :
    (res_main_v2 V : FVec Ideal S2x1x6144 .f32) (ix3 b 0 k) = a12 V (ix3 0 ⟨b, by omega⟩ k) := by
  unfold res_main_v2
  clean_types
  pointwise

/-- The bonus and the gates, widened. -/
theorem bg_at (b : Fin 2) (n : Fin 8448) (k : Fin 1024) :
    (res_main_v11 V : FVec Ideal S2x8448x1024 .f32) (ix3 b n k) = a4 V (ix3 b n k) := by
  unfold res_main_v11
  clean_types
  pointwise

/-- The sum of the two directions of the matrix memory, by head and lane. -/
theorem memory_at (b : Fin 2) (n : Fin 8448) (h : Fin 4) (l : Fin 128) :
    (res_main_v19 V : FVec Ideal S2x8448x4x128 .f32) (ix4 b n h l)
      = a1 V (ix4 0 b n ⟨h * 128 + l, by omega⟩) + a1 V (ix4 1 b n ⟨h * 128 + l, by omega⟩) := by
  unfold res_main_v19
  clean_types
  pointwise

/-- The sum of the two directions of the recurrence, by group and lane. -/
theorem sum_at (b : Fin 2) (n : Fin 8448) (h : Fin 8) (l : Fin 64) :
    (res_main_v47 V : FVec Ideal S2x8448x8x64 .f32) (ix4 b n h l)
      = a3 V (ix4 0 b n (groupLane h l)) + a3 V (ix4 1 b n (groupLane h l)) := by
  unfold res_main_v47
  clean_types
  pointwise [groupLane]

/-- The mean of a group. -/
theorem mean_at (b : Fin 2) (n : Fin 8448) (h : Fin 8) :
    (res_main_v53 V : FVec Ideal S2x8448x8x1 .f32) (ix4 b n h 0)
      = groupMean (fun k => a3 V (ix4 0 b n k) + a3 V (ix4 1 b n k)) h := by
  unfold res_main_v53
  clean_types
  pointwise [groupMean, sum_at, cGroup]

/-- The row less its group means. -/
theorem centered_at (b : Fin 2) (n : Fin 8448) (h : Fin 8) (l : Fin 64) :
    (res_main_v55 V : FVec Ideal S2x8448x8x64 .f32) (ix4 b n h l)
      = a3 V (ix4 0 b n (groupLane h l)) + a3 V (ix4 1 b n (groupLane h l))
        - groupMean (fun k => a3 V (ix4 0 b n k) + a3 V (ix4 1 b n k)) h := by
  unfold res_main_v55
  clean_types
  pointwise [sum_at, mean_at]

/-- A column is its lane of its group. -/
theorem lane_self (x : Fin 512) (h : (x : ℕ) / 64 < 8) (h' : (x : ℕ) % 64 < 64) :
    groupLane ⟨(x : ℕ) / 64, h⟩ ⟨(x : ℕ) % 64, h'⟩ = x :=
  Fin.ext (Nat.div_add_mod' _ _)

/-- The output projection of the gated matrix memory beside the gated group norm. -/
theorem proj_at (b : Fin 2) (n : Fin 8192) (j : Fin 1024) :
    (res_main_v83 V : FVec Ideal S2x8192x1024 .f32) (ix3 b n j)
      = project
          (remembered (fun k => a1 V (ix4 0 b ⟨256 + n, by omega⟩ k) + a1 V (ix4 1 b ⟨256 + n, by omega⟩ k))
            (fun k => a5 V (ix2 0 k)) (fun k => a2 V (ix3 b ⟨256 + n, by omega⟩ ⟨512 + k, by omega⟩)))
          (grouped (fun k => a3 V (ix4 0 b ⟨256 + n, by omega⟩ k) + a3 V (ix4 1 b ⟨256 + n, by omega⟩ k)) (fun k => a6 V (ix2 0 k))
            (fun k => a7 V (ix2 0 k)) (fun k => a4 V (ix3 b ⟨256 + n, by omega⟩ ⟨k, by omega⟩))
            (fun k => a4 V (ix3 b ⟨256 + n, by omega⟩ ⟨512 + k, by omega⟩))) (fun l j => a8 V (ix3 0 l j)) j := by
  unfold res_main_v83
  clean_types
  pointwise [project, remembered, grouped, groupVar, memory_at, bg_at, sum_at, mean_at, centered_at, headScale, cHead, cEps, cGroup, cGroupEps]
  simp only [Nat.div_add_mod', lane_self]
  rfl

/-- The row after the mixer's gated residual. -/
theorem mid_at (b : Fin 2) (n : Fin 8192) (j : Fin 1024) :
    (res_main_v101 V : FVec Ideal S2x8192x1024 .f32) (ix3 b n j)
      = resid (fun j => a0 V (ix3 b n j)) (fun l => a12 V (ix3 0 ⟨b, by omega⟩ ⟨2048 + l, by omega⟩))
          (rms (fun j => (res_main_v83 V : FVec Ideal S2x8192x1024 .f32) (ix3 b n j)) (fun j => a11 V (ix3 0 1 j))) j := by
  unfold res_main_v101
  clean_types
  pointwise [resid, rms, rmsScale, cWidth, cEps, mod_at]

/-- One hidden unit of the feed-forward block. -/
theorem hidden_at (b : Fin 2) (n : Fin 8192) (k : Fin 4096) :
    (res_main_v128 V : FVec Ideal S2x8192x4096 .f32) (ix3 b n k)
      = hiddenUnit (modulated (fun j => (res_main_v101 V : FVec Ideal S2x8192x1024 .f32) (ix3 b n j))
          (fun j => a11 V (ix3 0 2 j)) (fun l => a12 V (ix3 0 ⟨b, by omega⟩ ⟨4096 + l, by omega⟩))
          (fun l => a12 V (ix3 0 ⟨b, by omega⟩ ⟨3072 + l, by omega⟩))) (fun l => a9 V (ix3 0 l k)) := by
  unfold res_main_v128
  clean_types
  pointwise [hiddenUnit, modulated, rms, rmsScale, cWidth, cEps, mod_at]

/-- The feed-forward block. -/
theorem ffn_at (b : Fin 2) (n : Fin 8192) (j : Fin 1024) :
    (res_main_v130 V : FVec Ideal S2x8192x1024 .f32) (ix3 b n j)
      = ffn (modulated (fun j => (res_main_v101 V : FVec Ideal S2x8192x1024 .f32) (ix3 b n j))
          (fun j => a11 V (ix3 0 2 j)) (fun l => a12 V (ix3 0 ⟨b, by omega⟩ ⟨4096 + l, by omega⟩))
          (fun l => a12 V (ix3 0 ⟨b, by omega⟩ ⟨3072 + l, by omega⟩)))
          (fun l k => a9 V (ix3 0 l k)) (fun k j => a10 V (ix3 0 k j)) j := by
  unfold res_main_v130
  clean_types
  pointwise [ffn, hidden_at]

/-- The reference's result array, from its arguments. -/
def result : FVec Ideal S2x8192x1024 .f32 := val3 V (Proc.devRef .tc main_v148)

/-- The reference's result at a batch, a token and a column. -/
theorem result_at (b : Fin 2) (n : Fin 8192) (j : Fin 1024) :
    result V (ix3 b n j)
      = evenEnd (fun b n j => a0 V (ix3 b n j)) (fun d b n k => a1 V (ix4 d b n k)) (fun b n k => a2 V (ix3 b n k))
          (fun d b n k => a3 V (ix4 d b n k)) (fun b n k => a4 V (ix3 b n k)) (fun k => a5 V (ix2 0 k))
          (fun k => a6 V (ix2 0 k)) (fun k => a7 V (ix2 0 k)) (fun l j => a8 V (ix3 0 l j))
          (fun l k => a9 V (ix3 0 l k)) (fun k j => a10 V (ix3 0 k j)) (fun r j => a11 V (ix3 0 r j))
          (fun b k => a12 V (ix3 0 ⟨b, by omega⟩ k)) b n j := by
  have hmid : (fun j => (res_main_v101 V : FVec Ideal S2x8192x1024 .f32) (ix3 b n j)) = _ :=
    funext fun j => mid_at V b n j
  have hproj : (fun j => (res_main_v83 V : FVec Ideal S2x8192x1024 .f32) (ix3 b n j)) = _ :=
    funext fun j => proj_at V b n j
  have hffn : (fun j => (res_main_v130 V : FVec Ideal S2x8192x1024 .f32) (ix3 b n j)) = _ :=
    funext fun j => ffn_at V b n j
  have key : result V (ix3 b n j)
      = resid (fun j => (res_main_v101 V : FVec Ideal S2x8192x1024 .f32) (ix3 b n j))
          (fun l => a12 V (ix3 0 ⟨b, by omega⟩ ⟨5120 + l, by omega⟩))
          (rms (fun j => (res_main_v130 V : FVec Ideal S2x8192x1024 .f32) (ix3 b n j)) (fun j => a11 V (ix3 0 3 j)))
          j := by
    refine (congrFun (val3_main_v148 V) (ix3 b n j)).trans ?_
    clean_types
    pointwise [resid, rms, rmsScale, cWidth, cEps, mod_at]
  rw [key, hffn, hmid, hproj]
  rfl

end Cert.Reference3Ideal.EvenRef
-- ==== Proof.EvenClaims.lean ====
/- The claims about the even layer's closing call, from the two value modules and the generated runs. -/
module

public import proofs.«01_k».proof.Defs
public import proofs.«01_k».proof.Proof.EvenFinal
public import proofs.«01_k».proof.Proof.EvenRef
public import proofs.«01_k».proof.Proof.AttnClaims
public import proofs.«01_k».proof.Proof.Gen.Kernel3.Frame
public import proofs.«01_k».proof.Proof.Gen.Pre_finite3
public import Idealize.ShloMosaic.Lib.Quiescent
public import Idealize.ShloMosaic.Lib.ReduceAll

set_option maxRecDepth 16384

@[expose] public section
noncomputable section

open Idealize.ShloMosaic Idealize.ShloMosaic.TcCoe Idealize.SL.Sem Idealize.ShloMosaic.StableHlo Cert.Rows

namespace Cert.Kernel3Ideal.EvenValue

open Cert.Kernel3Ideal.Gen

/-- The kernel's run leaves the named result array and keeps its arguments. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v20) = (fun i : S2x8192x1024.Idx => RES m c (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 16).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 11).trans (((dats m 0 c).arrAt_in 11 rfl _).trans ((A_eq m c 11).trans (V_main_arg11 m c))),
      ((h c).2 main_arg12 (Pipeline.mem_restRefs_of main_arg12 (by decide) (by decide))).trans (V_main_arg12 m c)⟩)
    (run_main m ρ)

end Cert.Kernel3Ideal.EvenValue

namespace Cert.Proof.Even

/-- Under the precondition the recurrence outputs are real numbers. -/
theorem reals (x : FVec Ideal Cert.Pre_finite3.S2x8192x1024 .f32) (hm y : FVec Ideal Cert.Pre_finite3.S2x2x8448x512 .f32)
    (p bg : FVec Ideal Cert.Pre_finite3.S2x8448x1024 .bf16) (hn lw lb : FVec Ideal Cert.Pre_finite3.S1x512 .f32)
    (w0 : FVec Ideal Cert.Pre_finite3.S2x1024x1024 .f32) (w1 : FVec Ideal Cert.Pre_finite3.S2x1024x4096 .f32)
    (w2 : FVec Ideal Cert.Pre_finite3.S2x4096x1024 .f32) (ng : FVec Ideal Cert.Pre_finite3.S2x4x1024 .f32)
    (ada : FVec Ideal Cert.Pre_finite3.S2x8x6144 .f32)
    (h : Cert.Pre_finite3.fn (F := Ideal) x hm p y bg hn lw lb w0 w1 w2 ng ada = fun _ => 1#1) (i) :
    ∃ r : ℝ, y i = r := by
  have h0 := congrFun h (Shape.Idx.first Cert.Pre_finite3.Gen.h_S_)
  unfold Cert.Pre_finite3.fn at h0
  exact Cert.Proof.Attention.real_of_all y _ _ _ _ h0 i

/-- The reference runs, keeps its arguments and leaves every counter at zero. -/
theorem quiescentReference : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩)
    (Cert.Reference3Ideal.Value.run m ρ)

/-- The same of memories that meet the precondition. -/
theorem quiescentReference_finite3 : Cert.quiescent_Reference3Ideal_pre_finite3
    (hReference3Ideal := Cert.Reference3Ideal.Gen.facts) (hPre_finite3 := Cert.Pre_finite3.Gen.facts) :=
  fun m ρ _ => quiescentReference m ρ trivial

/-- From arguments that agree and a finite recurrence output, the reference's result array is the kernel's. -/
theorem result_eq (m : (ℓ : Loc Cert.Kernel3Ideal.nD Cert.Kernel3Ideal.τ Cert.Kernel3Ideal.sig) → Buf (Elt Ideal) ℓ)
    (c : Dev Cert.Kernel3Ideal.nD)
    (V : Valuation Cert.Reference3Ideal.τ Cert.Reference3Ideal.sig (Elt Ideal))
    (h : ∀ i, ∃ r : ℝ, Cert.Kernel3Ideal.EvenValue.a3 m c i = r)
    (h0 : Cert.Reference3Ideal.EvenRef.a0 V = Cert.Kernel3Ideal.EvenValue.a0 m c)
    (h1 : Cert.Reference3Ideal.EvenRef.a1 V = Cert.Kernel3Ideal.EvenValue.a1 m c)
    (h2 : Cert.Reference3Ideal.EvenRef.a2 V = Cert.Kernel3Ideal.EvenValue.a2 m c)
    (h3 : Cert.Reference3Ideal.EvenRef.a3 V = Cert.Kernel3Ideal.EvenValue.a3 m c)
    (h4 : Cert.Reference3Ideal.EvenRef.a4 V = Cert.Kernel3Ideal.EvenValue.a4 m c)
    (h5 : Cert.Reference3Ideal.EvenRef.a5 V = Cert.Kernel3Ideal.EvenValue.a5 m c)
    (h6 : Cert.Reference3Ideal.EvenRef.a6 V = Cert.Kernel3Ideal.EvenValue.a6 m c)
    (h7 : Cert.Reference3Ideal.EvenRef.a7 V = Cert.Kernel3Ideal.EvenValue.a7 m c)
    (h8 : Cert.Reference3Ideal.EvenRef.a8 V = Cert.Kernel3Ideal.EvenValue.a8 m c)
    (h9 : Cert.Reference3Ideal.EvenRef.a9 V = Cert.Kernel3Ideal.EvenValue.a9 m c)
    (h10 : Cert.Reference3Ideal.EvenRef.a10 V = Cert.Kernel3Ideal.EvenValue.a10 m c)
    (h11 : Cert.Reference3Ideal.EvenRef.a11 V = Cert.Kernel3Ideal.EvenValue.a11 m c)
    (h12 : Cert.Reference3Ideal.EvenRef.a12 V = Cert.Kernel3Ideal.EvenValue.a12 m c) :
    Cert.Reference3Ideal.EvenRef.result V
      = fun i : Cert.Kernel3Ideal.S2x8192x1024.Idx => Cert.Kernel3Ideal.EvenValue.RES m c (i 0) (i 1) (i 2) := by
  funext i
  rw [eq_ix3 i]
  refine (Cert.Reference3Ideal.EvenRef.result_at V (i 0) (i 1) (i 2)).trans ?_
  rw [h0, h1, h2, h3, h4, h5, h6, h7, h8, h9, h10, h11, h12]
  exact (Cert.Kernel3Ideal.EvenValue.RES_eq m c h (i 0) (i 1) (i 2)).symm

/-- At the extended reals the kernel and the reference leave equal results. -/
theorem algebraic : Cert.algebraic_Kernel3Ideal_Reference3Ideal_pre_finite3
    (hKernel3Ideal := Cert.Kernel3Ideal.Gen.facts) (hReference3Ideal := Cert.Reference3Ideal.Gen.facts)
    (hPre_finite3 := Cert.Pre_finite3.Gen.facts) := by
  intro m ρ m' ρ' hpre hagree
  refine ⟨fun c => fun i : Cert.Kernel3Ideal.S2x8192x1024.Idx =>
    Cert.Kernel3Ideal.EvenValue.RES m c (i 0) (i 1) (i 2), Cert.Kernel3Ideal.EvenValue.run_named m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6, h7, h8, h9, h10, h11, h12⟩ := hagree c
  exact (Cert.Reference3Ideal.Value.val3_main_v148 (launchContents m' c)).symm.trans
    (result_eq m c (launchContents m' c) (reals _ _ _ _ _ _ _ _ _ _ _ _ _ (hpre c)) h0 h1 h2 h3 h4 h5 h6 h7 h8 h9 h10 h11 h12)

end Cert.Proof.Even
-- ==== Proof.InSpec.lean ====
/- The rows of the odd layer's opening call, as plain functions on the extended reals: the normed and modulated row of
   a token of the joint sequence, and its input projection. Both programs are read down to these. -/
module

public import proofs.«01_k».proof.Proof.Spec

set_option maxRecDepth 16384

@[expose] public section
noncomputable section

open Idealize.ShloMosaic

namespace Cert.Rows

/-- One row times the input weights, at a column. -/
def projected (h : Fin 1024 → EReal) (w : Fin 1024 → Fin 2560 → EReal) (j : Fin 2560) : EReal :=
  ∑ l, h l * w l j

/-- The normed and modulated row of a token of the joint sequence: the first 256 tokens are the context's, under
    row 2 of the modulation table; the others are the latents', under the row of their batch. -/
def joined (ctx : Fin 2 → Fin 256 → Fin 1024 → EReal) (x : Fin 2 → Fin 8192 → Fin 1024 → EReal)
    (g : Fin 1024 → EReal) (ada : Fin 8 → Fin 6144 → EReal) (b : Fin 2) (t : Fin 8448) : Fin 1024 → EReal :=
  if h : (t : ℕ) < 256 then
    modulated (ctx b ⟨t, h⟩) g (fun j => ada 2 ⟨1024 + j, by omega⟩) (fun j => ada 2 ⟨j, by omega⟩)
  else
    modulated (x b ⟨(t : ℕ) - 256, by omega⟩) g (fun j => ada ⟨b, by omega⟩ ⟨1024 + j, by omega⟩)
      (fun j => ada ⟨b, by omega⟩ ⟨j, by omega⟩)

/-- Two normed and modulated rows are equal when their parts are. -/
theorem modulated_congr {x x' g g' sc sc' sh sh' : Fin 1024 → EReal} (hx : ∀ j, x j = x' j) (hg : ∀ j, g j = g' j)
    (hc : ∀ j, sc j = sc' j) (hs : ∀ j, sh j = sh' j) : modulated x g sc sh = modulated x' g' sc' sh' := by
  rw [funext hx, funext hg, funext hc, funext hs]

/-- Two projections are equal when their rows and weights are. -/
theorem projected_congr {h h' : Fin 1024 → EReal} {w w' : Fin 1024 → Fin 2560 → EReal} (hh : h = h')
    (hw : ∀ l j, w l j = w' l j) (j : Fin 2560) : projected h w j = projected h' w' j := by
  rw [hh, funext fun l => funext (hw l)]

end Cert.Rows
-- ==== Proof.InRows.lean ====
/- The odd layer's opening call, payload by payload: what each value the body computes is at a row and a column. -/
module

public import proofs.«01_k».proof.Proof.InSpec
public import proofs.«01_k».proof.Proof.Gen.Kernel4Ideal.Frame
public import Idealize.ShloMosaic.Lib.Pipeline.ValueKit

set_option maxRecDepth 16384

@[expose] public section
noncomputable section

open Idealize.ShloMosaic Idealize.ShloMosaic.TcCoe Idealize.SL.Sem
open Cert.Kernel4Ideal Cert.Kernel4Ideal.Gen Cert.Rows

namespace Cert.Kernel4Ideal.InRows

/-- The test of whether a grid point is the context's. -/
abbrev first (i : grid0.Coords) : BitVec 1 := Scalar.cmpi .eq (BitVec.ofNat 32 (i 0).val) 0#32

/-- The context's row at the first grid point, the latents' row at the others. -/
def pick (v : BitVec 1) (x y : Fin 1024 → EReal) : Fin 1024 → EReal := Scalar.select v x y

/-- Batch 0: the normed and modulated row. -/
theorem pay7_at (i : grid0.Coords) (c x : FVec Ideal S1x256x1024 .f32) (g : FVec Ideal S1x1024 .f32)
    (sc sh : FVec Ideal S1x1x1x1x1024 .f32) (r : Fin 256) (j : Fin 1024) :
    k0_pay7 (F := Ideal) i c x g sc sh (ix2 r j)
      = modulated (pick (first i) (fun j => c (ix3 0 r j)) (fun j => x (ix3 0 r j))) (fun j => g (ix2 0 j))
          (fun j => sc (ix5 0 0 0 0 j)) (fun j => sh (ix5 0 0 0 0 j)) j := by
  unfold pick first
  by_cases h : Scalar.cmpi .eq (BitVec.ofNat 32 (i 0).val) 0#32 = 1#1
  · pointwise! [k0_pay7, h, modulated, rms, rmsScale, cWidth, cEps]
  · pointwise! [k0_pay7, h, modulated, rms, rmsScale, cWidth, cEps]

/-- The context block of batch 1, its unit axis dropped. -/
theorem pay8_at (v : FVec Ideal S1x256x1024 .f32) (r : Fin 256) (j : Fin 1024) :
    k0_pay8 (F := Ideal) v (ix2 r j) = v (ix3 0 r j) := by
  pointwise! [k0_pay8]

/-- Both batches' rows: batch 0 first. -/
theorem pay9_low (v : BitVec 1) (h0 : FVec Ideal S256x1024 .bf16) (c : FVec Ideal S256x1024 .f32)
    (x : FVec Ideal S1x256x1024 .f32) (g : FVec Ideal S1x1024 .f32) (sc sh : FVec Ideal S1x1x1x1x1024 .f32)
    (r : Fin 256) (j : Fin 1024) :
    k0_pay9 (F := Ideal) v h0 c x g sc sh (ix2 ⟨r, by omega⟩ j) = h0 (ix2 r j) := by
  have hr := r.isLt
  pointwise! [k0_pay9, hr]

/-- Both batches' rows: batch 1 from row 256. -/
theorem pay9_high (v : BitVec 1) (h0 : FVec Ideal S256x1024 .bf16) (c : FVec Ideal S256x1024 .f32)
    (x : FVec Ideal S1x256x1024 .f32) (g : FVec Ideal S1x1024 .f32) (sc sh : FVec Ideal S1x1x1x1x1024 .f32)
    (r : Fin 256) (j : Fin 1024) :
    k0_pay9 (F := Ideal) v h0 c x g sc sh (ix2 ⟨256 + r, by omega⟩ j)
      = modulated (pick v (fun j => c (ix2 r j)) (fun j => x (ix3 0 r j))) (fun j => g (ix2 0 j))
          (fun j => sc (ix5 0 0 0 0 j)) (fun j => sh (ix5 0 0 0 0 j)) j := by
  unfold pick
  by_cases h : v = 1#1
  · pointwise! [k0_pay9, h, modulated, rms, rmsScale, cWidth, cEps]
  · pointwise! [k0_pay9, h, modulated, rms, rmsScale, cWidth, cEps]

/-- The product of both batches' rows with the weights. -/
theorem pay11_at (v : BitVec 1) (h0 : FVec Ideal S256x1024 .bf16) (c : FVec Ideal S256x1024 .f32)
    (x : FVec Ideal S1x256x1024 .f32) (g : FVec Ideal S1x1024 .f32) (sc sh : FVec Ideal S1x1x1x1x1024 .f32)
    (w : FVec Ideal S1024x2560 .bf16) (r : Fin 512) (j : Fin 2560) :
    k0_pay11 (F := Ideal) v h0 c x g sc sh w (ix2 r j)
      = ∑ l : Fin 1024, k0_pay9 (F := Ideal) v h0 c x g sc sh (ix2 r l) * w (ix2 l j) := by
  pointwise! [k0_pay11]

/-- The rows of batch 0, cast. -/
theorem pay5_at (v : FVec Ideal S512x2560 .f32) (b : Fin 1) (r : Fin 256) (j : Fin 2560) :
    k0_pay5 (F := Ideal) v (ix3 b r j) = v (ix2 ⟨r, by omega⟩ j) := by
  pointwise! [k0_pay5]

/-- The rows of batch 1, cast. -/
theorem pay6_at (v : FVec Ideal S512x2560 .f32) (b : Fin 1) (r : Fin 256) (j : Fin 2560) :
    k0_pay6 (F := Ideal) v (ix3 b r j) = v (ix2 ⟨256 + r, by omega⟩ j) := by
  pointwise! [k0_pay6]

end Cert.Kernel4Ideal.InRows
-- ==== Proof.InOut.lean ====
/- The odd layer's opening call: what its body leaves in the output block of the projection, from the blocks it is
   handed. -/
module

public import proofs.«01_k».proof.Proof.InRows

set_option maxRecDepth 16384

@[expose] public section
noncomputable section

open Idealize.ShloMosaic Idealize.ShloMosaic.TcCoe Idealize.SL.Sem
open Cert.Kernel4Ideal Cert.Kernel4Ideal.Gen Cert.Rows

namespace Cert.Kernel4Ideal.InRows

variable (i : grid0.Coords) (x0 : FVec Ideal S2x256x1024 .f32) (x1 : FVec Ideal S2x256x1024 .f32)
  (x2 : FVec Ideal S1x1024 .f32) (x3 : FVec Ideal S2x1x1x1x1024 .f32) (x4 : FVec Ideal S2x1x1x1x1024 .f32)
  (x5 : FVec Ideal S1024x3200 .bf16) (x6 : FVec Ideal S256x128 .f32) (x7 : FVec Ideal S256x128 .f32)
  (x8 : FVec Ideal S1x128 .f32) (x9 : FVec Ideal S1x256 .f32) (x10 : FVec Ideal S128x512 .bf16)
  (x11 : FVec Ideal S4x128x128 .bf16) (x12 : FVec Ideal S256x1024 .bf16) (x13 : FVec Ideal S256x512 .bf16)

/-- A load of batch 0 of a block of rows. -/
theorem ld0 (x : FVec Ideal S2x256x1024 .f32) (b : Fin 1) (r : Fin 256) (j : Fin 1024) :
    (View.ld (Val := Elt Ideal) (e' := .f32) x r0_0 : FVec Ideal S1x256x1024 .f32) (ix3 b r j) = x (ix3 0 r j) :=
  View.ld_unit_apply_of _ _ _ _ _ _ fun a => by fin_cases a <;> simp

/-- A load of batch 1 of a block of rows. -/
theorem ld3 (x : FVec Ideal S2x256x1024 .f32) (b : Fin 1) (r : Fin 256) (j : Fin 1024) :
    (View.ld (Val := Elt Ideal) (e' := .f32) x r0_3 : FVec Ideal S1x256x1024 .f32) (ix3 b r j) = x (ix3 1 r j) :=
  View.ld_unit_apply_of _ _ _ _ _ _ fun a => by fin_cases a <;> simp

/-- A load of the norm weights. -/
theorem ld1 (x : FVec Ideal S1x1024 .f32) (b : Fin 1) (j : Fin 1024) :
    (View.ld (Val := Elt Ideal) (e' := .f32) x r0_1 : FVec Ideal S1x1024 .f32) (ix2 b j) = x (ix2 0 j) :=
  View.ld_unit_apply_of _ _ _ _ _ _ fun a => by fin_cases a <;> simp

/-- A load of batch 0 of a modulation. -/
theorem ld2 (x : FVec Ideal S2x1x1x1x1024 .f32) (j : Fin 1024) :
    (View.ld (Val := Elt Ideal) (e' := .f32) x r0_2 : FVec Ideal S1x1x1x1x1024 .f32) (ix5 0 0 0 0 j)
      = x (ix5 0 0 0 0 j) :=
  View.ld_unit_apply_of _ _ _ _ _ _ fun a => by fin_cases a <;> simp

/-- A load of batch 1 of a modulation. -/
theorem ld4 (x : FVec Ideal S2x1x1x1x1024 .f32) (j : Fin 1024) :
    (View.ld (Val := Elt Ideal) (e' := .f32) x r0_4 : FVec Ideal S1x1x1x1x1024 .f32) (ix5 0 0 0 0 j)
      = x (ix5 1 0 0 0 j) :=
  View.ld_unit_apply_of _ _ _ _ _ _ fun a => by fin_cases a <;> simp

/-- A load of the weights' first 2560 columns. -/
theorem ld6 (x : FVec Ideal S1024x3200 .bf16) (l : Fin 1024) (j : Fin 2560) :
    (View.ld (Val := Elt Ideal) (e' := .bf16) x r0_6 : FVec Ideal S1024x2560 .bf16) (ix2 l j)
      = x (ix2 l ⟨j, by omega⟩) :=
  View.ld_unit_apply_of _ _ _ _ _ _ fun a => by fin_cases a <;> simp

/-- The normed and modulated row of a batch and a row of the blocks. -/
def rowAt (b : Fin 2) (r : Fin 256) : Fin 1024 → EReal :=
  modulated (pick (first i) (fun j => x0 (ix3 b r j)) (fun j => x1 (ix3 b r j))) (fun j => x2 (ix2 0 j))
    (fun j => x4 (ix5 b 0 0 0 j)) (fun j => x3 (ix5 b 0 0 0 j))

/-- Row `r` of the projected rows is batch 0's. -/
theorem low_at (r : Fin 256) (j : Fin 2560) :
    k0_pay63 (F := Ideal) i x0 x1 x2 x3 x4 x5 x6 x7 x8 x9 x10 x11 x12 x13 (ix2 ⟨r, by omega⟩ j)
      = projected (rowAt i x0 x1 x2 x3 x4 0 r) (fun l j => x5 (ix2 l ⟨j, by omega⟩)) j := by
  unfold k0_pay63 k0_pay60
  rw [pay11_at]
  simp only [pay9_low, pay7_at, ld0 x0, ld0 x1, ld1 x2, ld2 x3, ld2 x4, ld6 x5]
  rfl

/-- Row `256 + r` of the projected rows is batch 1's. -/
theorem high_at (r : Fin 256) (j : Fin 2560) :
    k0_pay63 (F := Ideal) i x0 x1 x2 x3 x4 x5 x6 x7 x8 x9 x10 x11 x12 x13 (ix2 ⟨256 + r, by omega⟩ j)
      = projected (rowAt i x0 x1 x2 x3 x4 1 r) (fun l j => x5 (ix2 l ⟨j, by omega⟩)) j := by
  unfold k0_pay63 k0_pay61
  rw [pay11_at]
  simp only [pay9_high, pay8_at, ld3 x0, ld3 x1, ld1 x2, ld4 x3, ld4 x4, ld6 x5]
  rfl

/-- What the body leaves in the output block of the projection: every row of both batches, projected. -/
theorem out_at (y : S2x256x2560.Idx) :
    out0_14 (F := Ideal) i x0 x1 x2 x3 x4 x5 x6 x7 x8 x9 x10 x11 x12 x13 y
      = projected (rowAt i x0 x1 x2 x3 x4 (y 0) (y 1)) (fun l j => x5 (ix2 l ⟨j, by omega⟩)) (y 2) := by
  unfold out0_14
  canon_tiles z g
  all_goals idx_vars z
  · refine (pay6_at _ _ _ _).trans ((high_at _ _ _ _ _ _ _ _ _ _ _ _ _ _ _ _ _).trans ?_)
    rw [show y 0 = (1 : Fin 2) from Fin.ext (g0.trans (by simp)), show y 1 = z1 from Fin.ext g1,
      show y 2 = z2 from Fin.ext g2]
  · refine (pay5_at _ _ _ _).trans ((low_at _ _ _ _ _ _ _ _ _ _ _ _ _ _ _ _ _).trans ?_)
    rw [show y 0 = (0 : Fin 2) from Fin.ext (g0.trans (by simp)), show y 1 = z1 from Fin.ext g1,
      show y 2 = z2 from Fin.ext g2]

end Cert.Kernel4Ideal.InRows
-- ==== Proof.InBlocks.lean ====
/- The odd layer's opening call: the blocks its body reads at a grid point, as entries of the argument arrays. -/
module

public import proofs.«01_k».proof.Proof.InRows
public import Idealize.ShloMosaic.Lib.StableHlo.ReadAt

set_option maxRecDepth 16384

@[expose] public section
noncomputable section

open Idealize.ShloMosaic Idealize.ShloMosaic.TcCoe Idealize.SL.Sem
open Idealize.ShloMosaic.Pipeline (Dat)
open Cert.Kernel4Ideal Cert.Kernel4Ideal.Gen Cert.Rows

namespace Cert.Kernel4Ideal.InValue

variable (m : (ℓ : Loc nD τ sig) → Buf (Elt Ideal) ℓ)

/-- The argument arrays the projection reads. -/
abbrev a0 (c : Dev nD) : FVec Ideal S2x256x1024 .f32 := m ((c : Thread nD τ).loc main_arg0)
abbrev a1 (c : Dev nD) : FVec Ideal S2x8192x1024 .f32 := m ((c : Thread nD τ).loc main_arg1)
abbrev a2 (c : Dev nD) : FVec Ideal S2x4x1024 .f32 := m ((c : Thread nD τ).loc main_arg2)
abbrev a3 (c : Dev nD) : FVec Ideal S2x8x6144 .f32 := m ((c : Thread nD τ).loc main_arg3)
abbrev a4 (c : Dev nD) : FVec Ideal S1x1024x3008 .f32 := m ((c : Thread nD τ).loc main_arg4)

/-- Where the windows' blocks lie at a grid point, and the test of the first point. -/
theorem idx : ∀ t : Fin cfg0.N,
    win0_0.index t = ![0, 0, 0]
    ∧ win0_1.index t = ![0, t.val - 1, 0]
    ∧ win0_2.index t = ![0, 0]
    ∧ win0_3.index t = ![0, min t.val 1, 0, 0, 0]
    ∧ win0_4.index t = ![0, min t.val 1, 1, 0, 0]
    ∧ win0_5.index t = ![0, 0]
    ∧ win0_14.index t = ![0, t.val, 0] ∧ t.val < 33
    ∧ InRows.first (grid0.coords t) = (if t.val = 0 then 1#1 else 0#1) :=
  (by decide +kernel : ∀ t : Fin grid0.N, _)

/-- The grid has 33 points. -/
theorem lt_points (t : Fin cfg0.N) : t.val < 33 := (idx t).2.2.2.2.2.2.2.1

/-- The stacked modulations, segment 0: the context's row of the modulation table, in both batches. -/
theorem mods0_at (c : Dev nD) (b : Fin 2) (k : Fin 6) (j : Fin 1024) :
    (V m c main_v10 : FVec Ideal S2x2x6x1x1024 .f32) (ix5 b 0 k 0 j) = a3 m c (ix3 1 2 ⟨k * 1024 + j, by omega⟩) := by
  unfold V
  simp only [hostOps0, hostOps0_1, hostOps0_2, hostOps0_3, hostOps0_4, List.flatten_cons, List.flatten_nil,
    List.append_nil, List.cons_append, List.nil_append]
  after_reads_at
  after_reads_at

/-- The stacked modulations, segment 1: the batch's row of the modulation table. -/
theorem mods1_at (c : Dev nD) (b : Fin 2) (k : Fin 6) (j : Fin 1024) :
    (V m c main_v10 : FVec Ideal S2x2x6x1x1024 .f32) (ix5 b 1 k 0 j)
      = a3 m c (ix3 1 ⟨b, by omega⟩ ⟨k * 1024 + j, by omega⟩) := by
  unfold V
  simp only [hostOps0, hostOps0_1, hostOps0_2, hostOps0_3, hostOps0_4, List.flatten_cons, List.flatten_nil,
    List.append_nil, List.cons_append, List.nil_append]
  after_reads_at
  after_reads_at

/-- The norm weights of the layer, first row. -/
theorem gain_at (c : Dev nD) (j : Fin 1024) :
    (V m c main_v86 : FVec Ideal S1x1024 .f32) (ix2 0 j) = a2 m c (ix3 1 0 j) := by
  unfold V
  simp only [hostOps0, hostOps0_1, hostOps0_2, hostOps0_3, hostOps0_4, List.flatten_cons, List.flatten_nil,
    List.append_nil, List.cons_append, List.nil_append]
  after_reads_at

/-- The padded and cast weights are the argument, in the columns of the projection. -/
theorem w_at (c : Dev nD) (l : Fin 1024) (j : Fin 2560) :
    (V m c main_v87 : FVec Ideal S1024x3200 .bf16) (ix2 l ⟨j, by omega⟩) = a4 m c (ix3 0 l ⟨j, by omega⟩) := by
  unfold V
  simp only [hostOps0, hostOps0_1, hostOps0_2, hostOps0_3, hostOps0_4, List.flatten_cons, List.flatten_nil,
    List.append_nil, List.cons_append, List.nil_append]
  after_reads_at
  rw [dif_pos (show (j : ℕ) < 2944 by omega)]
  after_reads_at

/-- The block of the context: all of it. -/
theorem blk0 (c : Dev nD) (t : Fin cfg0.N) (b : Fin 2) (r : Fin 256) (j : Fin 1024) :
    (iblk m c 0 t : FVec Ideal S2x256x1024 .f32) (ix3 b r j) = a0 m c (ix3 b r j) := by
  have hidx := (idx t).1
  blk_ext [iblk, V, hidx]

/-- The block of the latents: the tile before the grid point. -/
theorem blk1 (c : Dev nD) (t : Fin cfg0.N) (b : Fin 2) (r : Fin 256) (j : Fin 1024) :
    (iblk m c 1 t : FVec Ideal S2x256x1024 .f32) (ix3 b r j)
      = a1 m c (ix3 b ⟨256 * (t.val - 1) + r, by have := lt_points t; omega⟩ j) := by
  have hidx := (idx t).2.1
  blk_ext [iblk, V, hidx]

/-- The block of the norm weights. -/
theorem blk2 (c : Dev nD) (t : Fin cfg0.N) (j : Fin 1024) :
    (iblk m c 2 t : FVec Ideal S1x1024 .f32) (ix2 0 j) = a2 m c (ix3 1 0 j) := by
  have hidx := (idx t).2.2.1
  refine Eq.trans ?_ (gain_at m c j)
  blk_ext [iblk, hidx]

/-- The block of shifts at the first point: the context's. -/
theorem blk3_zero (c : Dev nD) (t : Fin cfg0.N) (ht : t.val = 0) (b : Fin 2) (j : Fin 1024) :
    (iblk m c 3 t : FVec Ideal S2x1x1x1x1024 .f32) (ix5 b 0 0 0 j) = a3 m c (ix3 1 2 ⟨j, by omega⟩) := by
  have hidx := (idx t).2.2.2.1
  rw [show min t.val 1 = 0 by omega] at hidx
  refine Eq.trans ?_ ((mods0_at m c b 0 j).trans ?_)
  · blk_ext [iblk, hidx]
  · refine congrArg (fun z => a3 m c (ix3 1 2 z)) (Fin.ext ?_)
    simp

/-- The block of shifts at the later points: the batch's. -/
theorem blk3_pos (c : Dev nD) (t : Fin cfg0.N) (ht : t.val ≠ 0) (b : Fin 2) (j : Fin 1024) :
    (iblk m c 3 t : FVec Ideal S2x1x1x1x1024 .f32) (ix5 b 0 0 0 j)
      = a3 m c (ix3 1 ⟨b, by omega⟩ ⟨j, by omega⟩) := by
  have hidx := (idx t).2.2.2.1
  rw [show min t.val 1 = 1 by omega] at hidx
  refine Eq.trans ?_ ((mods1_at m c b 0 j).trans ?_)
  · blk_ext [iblk, hidx]
  · refine congrArg (fun z => a3 m c (ix3 1 _ z)) (Fin.ext ?_)
    simp

/-- The block of scales at the first point: the context's. -/
theorem blk4_zero (c : Dev nD) (t : Fin cfg0.N) (ht : t.val = 0) (b : Fin 2) (j : Fin 1024) :
    (iblk m c 4 t : FVec Ideal S2x1x1x1x1024 .f32) (ix5 b 0 0 0 j) = a3 m c (ix3 1 2 ⟨1024 + j, by omega⟩) := by
  have hidx := (idx t).2.2.2.2.1
  rw [show min t.val 1 = 0 by omega] at hidx
  refine Eq.trans ?_ ((mods0_at m c b 1 j).trans ?_)
  · blk_ext [iblk, hidx]
  · refine congrArg (fun z => a3 m c (ix3 1 2 z)) (Fin.ext ?_)
    simp

/-- The block of scales at the later points: the batch's. -/
theorem blk4_pos (c : Dev nD) (t : Fin cfg0.N) (ht : t.val ≠ 0) (b : Fin 2) (j : Fin 1024) :
    (iblk m c 4 t : FVec Ideal S2x1x1x1x1024 .f32) (ix5 b 0 0 0 j)
      = a3 m c (ix3 1 ⟨b, by omega⟩ ⟨1024 + j, by omega⟩) := by
  have hidx := (idx t).2.2.2.2.1
  rw [show min t.val 1 = 1 by omega] at hidx
  refine Eq.trans ?_ ((mods1_at m c b 1 j).trans ?_)
  · blk_ext [iblk, hidx]
  · refine congrArg (fun z => a3 m c (ix3 1 _ z)) (Fin.ext ?_)
    simp

/-- The block of weights, in the columns of the projection. -/
theorem blk5 (c : Dev nD) (t : Fin cfg0.N) (l : Fin 1024) (j : Fin 2560) :
    (iblk m c 5 t : FVec Ideal S1024x3200 .bf16) (ix2 l ⟨j, by omega⟩) = a4 m c (ix3 0 l ⟨j, by omega⟩) := by
  have hidx := (idx t).2.2.2.2.2.1
  refine Eq.trans ?_ (w_at m c l j)
  blk_ext [iblk, hidx]

end Cert.Kernel4Ideal.InValue
-- ==== Proof.InFinal.lean ====
/- The odd layer's opening call: its first result array is the projection of every row of the joint sequence, from the
   argument arrays. -/
module

public import proofs.«01_k».proof.Proof.InOut
public import proofs.«01_k».proof.Proof.InBlocks
public import proofs.«01_k».proof.Proof.Gen.Kernel4Ideal.Value

set_option maxRecDepth 16384

@[expose] public section
noncomputable section

open Idealize.ShloMosaic Idealize.ShloMosaic.TcCoe Idealize.SL.Sem
open Idealize.ShloMosaic.Pipeline (Dat)
open Cert.Kernel4Ideal Cert.Kernel4Ideal.Gen Cert.Rows

namespace Cert.Kernel4Ideal.InValue

variable (m : (ℓ : Loc nD τ sig) → Buf (Elt Ideal) ℓ)

/-- The normed and modulated row of a token, from the kernel's argument arrays. -/
def ROW (c : Dev nD) (b : Fin 2) (n : Fin 8448) : Fin 1024 → EReal :=
  joined (fun b t j => a0 m c (ix3 b t j)) (fun b t j => a1 m c (ix3 b t j)) (fun j => a2 m c (ix3 1 0 j))
    (fun s k => a3 m c (ix3 1 s k)) b n

/-- The projection of every row, from the kernel's argument arrays. -/
def RES (c : Dev nD) (b : Fin 2) (n : Fin 8448) (j : Fin 2560) : EReal :=
  projected (ROW m c b n) (fun l j => a4 m c (ix3 0 l ⟨j, by omega⟩)) j

/-- The row of the blocks at a grid point is the row of the token that the point's tile places it at. -/
theorem row_eq (c : Dev nD) (t : Fin cfg0.N) (b : Fin 2) (r : Fin 256) (n : Fin 8448)
    (hn : (n : ℕ) = 256 * t.val + r) :
    InRows.rowAt (grid0.coords t) (iblk m c 0 t) (iblk m c 1 t) (iblk m c 2 t) (iblk m c 3 t) (iblk m c 4 t) b r
      = ROW m c b n := by
  have hf := (idx t).2.2.2.2.2.2.2.2
  unfold InRows.rowAt InRows.pick ROW joined
  rw [hf]
  by_cases ht : t.val = 0
  · rw [dif_pos (show (n : ℕ) < 256 by have := r.isLt; omega), if_pos ht]
    refine modulated_congr (fun j => ?_) (blk2 m c t) (blk4_zero m c t ht b) (blk3_zero m c t ht b)
    refine (blk0 m c t b r j).trans ?_
    rw [show (⟨n, by have := r.isLt; omega⟩ : Fin 256) = r from Fin.ext (by simp only; omega)]
  · rw [dif_neg (show ¬(n : ℕ) < 256 by omega), if_neg ht]
    refine modulated_congr (fun j => ?_) (blk2 m c t) (blk4_pos m c t ht b) (blk3_pos m c t ht b)
    refine (blk1 m c t b r j).trans ?_
    exact congrArg (fun z => a1 m c (ix3 b z j)) (Fin.ext (by simp only; omega))

/-- What a grid point leaves in its block of the result is the projection of the block's rows. -/
theorem point (c : Dev nD) (t : Fin cfg0.N) (y : S2x256x2560.Idx) :
    out0_14 (F := Ideal) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) y
    = RES m c (y 0) ⟨256 * t.val + (y 1).val, by have := lt_points t; idx_bounds; omega⟩ (y 2) :=
  (InRows.out_at _ _ _ _ _ _ _ _ _ _ _ _ _ _ _ y).trans
    (projected_congr (row_eq m c t (y 0) (y 1) _ rfl) (blk5 m c t) (y 2))

/-- The kernel's first result array: the projection of every row. -/
theorem final (c : Dev nD) : (dats m 0 c).arrAt 14 (cfgs 0).N
    = (fun i : S2x8448x2560.Idx => RES m c (i 0) (i 1) (i 2)) := by
  refine (dats m 0 c).arrAt_eq_of_covers 14 _ (by decide +kernel) fun t _ y => ?_
  have hidx := (idx t).2.2.2.2.2.2.1
  blk_simp
  rw [after0_14]
  refine (point m c t y).trans ?_
  refine congr (congr (congrArg (RES m c) ?_) ?_) ?_ <;> refine Fin.ext ?_ <;> blk_simp [hidx] <;> idx_bounds <;> (try dsimp only) <;> omega

end Cert.Kernel4Ideal.InValue
-- ==== Proof.InClaims.lean ====
/- The claims about the odd layer's opening call, from its value modules and the generated runs. -/
module

public import proofs.«01_k».proof.Defs
public import proofs.«01_k».proof.Proof.InFinal
public import proofs.«01_k».proof.Proof.Gen.Reference4Ideal.Run
public import proofs.«01_k».proof.Proof.Gen.Kernel4.Frame
public import Idealize.ShloMosaic.Lib.Quiescent
public import Idealize.ShloMosaic.Lib.Tactic.CleanTypes

set_option maxRecDepth 16384

@[expose] public section
noncomputable section

open Idealize.ShloMosaic Idealize.ShloMosaic.TcCoe Idealize.SL.Sem Idealize.ShloMosaic.StableHlo Cert.Rows

namespace Cert.Proof.Opening

/-- The reference runs, keeps its arguments and leaves every counter at zero. -/
theorem quiescentReference : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩)
    (Cert.Reference4Ideal.Value.run m ρ)

/-- At the extended reals the kernel and the reference leave equal results. -/
theorem algebraic : Cert.algebraic_Kernel4Ideal_Reference4Ideal (hKernel4Ideal := Cert.Kernel4Ideal.Gen.facts)
    (hReference4Ideal := Cert.Reference4Ideal.Gen.facts) := by
  intro m ρ m' ρ' hpre hagree
  refine ⟨fun c => fun i : Cert.Kernel4Ideal.S2x8448x2560.Idx =>
    Cert.Kernel4Ideal.InValue.RES m c (i 0) (i 1) (i 2), ?_, ?_⟩
  · refine (θ_run Cert.Kernel4Ideal.defs _ _).mono (fun _ h c => ?_)
      (Cert.Kernel4Ideal.Value.run_blocks (F := Ideal) m ρ)
    exact ⟨(h c).1.trans (Cert.Kernel4Ideal.InValue.final m c), (h c).2.2.2.2⟩
  · refine (θ_run Cert.Reference4Ideal.defs _ _).mono (fun _ h c => ⟨(h c).1.trans ?_, (h c).2⟩)
      (Cert.Reference4Ideal.Value.run (F := Ideal) m' ρ')
    obtain ⟨h0, h1, h2, h3, h4, h5, h6, h7, h8⟩ := hagree c
    rw [h0, h1, h2, h3, h4]
    funext i
    rw [eq_ix3 i]
    generalize i 0 = b, i 1 = n, i 2 = j
    unfold Cert.Kernel4Ideal.InValue.RES Cert.Kernel4Ideal.InValue.ROW joined projected
    clean_types
    have hn := n.isLt
    by_cases h : (n : ℕ) < 256
    · pointwise [h, modulated, rms, rmsScale, cWidth, cEps]
    · pointwise [h, modulated, rms, rmsScale, cWidth, cEps]

end Cert.Proof.Opening
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.OddClaims
public import proofs.«01_k».proof.Proof.AttnClaims
public import proofs.«01_k».proof.Proof.EvenClaims
public import proofs.«01_k».proof.Proof.InClaims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite3
public import proofs.«01_k».proof.Proof.Gen.Reference2Ideal.Run
public import proofs.«01_k».proof.Proof.Gen.Reference2Ideal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Pre_finite.Gen.facts, Cert.Pre_finite3.Gen.facts,
  fun m ρ _ => Cert.Kernel.Gen.frame m ρ, fun m ρ _ => Cert.KernelIdeal.Gen.frame m ρ, Odd.quiescentReference,
  fun m ρ _ => Cert.Kernel2.Gen.frame m ρ, fun m ρ _ => Cert.Kernel2Ideal.Gen.frame m ρ,
  fun m ρ _ => Cert.Kernel2Ideal.Gen.frame m ρ, Attention.quiescentReference, Attention.quiescentReference_finite,
  fun m ρ _ => Cert.Kernel3.Gen.frame m ρ, fun m ρ _ => Cert.Kernel3Ideal.Gen.frame m ρ,
  fun m ρ _ => Cert.Kernel3Ideal.Gen.frame m ρ, Even.quiescentReference, Even.quiescentReference_finite3,
  fun m ρ _ => Cert.Kernel4.Gen.frame m ρ, fun m ρ _ => Cert.Kernel4Ideal.Gen.frame m ρ, Opening.quiescentReference,
  trivial, Odd.algebraic, Attention.preserves, Attention.algebraic, trivial, Even.algebraic,
  trivial, Opening.algebraic⟩

end Cert.Proof

end
